-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v375) = v0 c
          ∧ r.2.mem ((c.tc : Thread Cert.ReferenceIdeal.nD Cert.ReferenceIdeal.τ).loc Cert.ReferenceIdeal.main_v378) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x256 : Shape := ⟨2, ![4096, 256]⟩
abbrev S4096 : Shape := ⟨1, ![4096]⟩
abbrev S512x256 : Shape := ⟨2, ![512, 256]⟩
abbrev S512 : Shape := ⟨1, ![512]⟩
abbrev S512x512 : Shape := ⟨2, ![512, 512]⟩
abbrev S2x512 : Shape := ⟨2, ![2, 512]⟩
abbrev S2 : Shape := ⟨1, ![2]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S2x512 : S_.BroadcastsInDim S2x512 (![] : Fin 0 → Fin S2x512.rank)
  reducesTo_S2x512_S_d0_1 : S2x512.ReducesTo [0, 1] S_

variable [Facts]

def fn_part1 {F : FTy → Type} [FloatOps F] (main_arg5 : FVec F S512x512 .f32) (main_arg6 : FVec F S512 .f32) (main_arg7 : FVec F S2x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S2x512 .f32 := Host.absf main_arg7
  let main_cst_10 : FVec F S_ .f32 := constant S_ .f32 0x7F800000#32
  let main_v30 : FVec F S2x512 .f32 := broadcastInDim S2x512 ![] bcast_S_S2x512 main_cst_10
  let main_v31 : IVec S2x512 1 := cmpf .olt main_v29 main_v30
  let main_c_11 : IVec S_ 1 := constantI S_ 1 1#1
  let main_v32 : IVec S_ 1 := (fun x v => Host.reduce IntOp.andi x v reducesTo_S2x512_S_d0_1 h_S_) main_v31 main_c_11
  let main_v33 : IVec S_ 1 := andi main_v28 main_v32
  main_v33

def fn {F : FTy → Type} [FloatOps F] (main_arg0 : FVec F S4096x256 .f32) (main_arg1 : FVec F S4096x256 .f32) (main_arg2 : IVec S4096 32) (main_arg3 : FVec F S512x256 .f32) (main_arg4 : FVec F S512 .f32) (main_arg5 : FVec F S512x512 .f32) (main_arg6 : FVec F S512 .f32) (main_arg7 : FVec F S2x512 .f32) (main_arg8 : FVec F S2 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_v13 main_v16
-- ==== Kernel.lean ====
abbrev S4096x256 : Shape := ⟨2, ![4096, 256]⟩
abbrev S4096 : Shape := ⟨1, ![4096]⟩
abbrev S512x256 : Shape := ⟨2, ![512, 256]⟩
abbrev S512 : Shape := ⟨1, ![512]⟩
abbrev S512x512 : Shape := ⟨2, ![512, 512]⟩
abbrev S2x512 : Shape := ⟨2, ![2, 512]⟩
abbrev S2 : Shape := ⟨1, ![2]⟩
abbrev S4096x1 : Shape := ⟨2, ![4096, 1]⟩
abbrev S512x2 : Shape := ⟨2, ![512, 2]⟩
abbrev S1x512 : Shape := ⟨2, ![1, 512]⟩
abbrev S1x2 : Shape := ⟨2, ![1, 2]⟩
abbrev S1024x256 : Shape := ⟨2, ![1024, 256]⟩
abbrev S1024x1 : Shape := ⟨2, ![1024, 1]⟩
abbrev S512x1 : Shape := ⟨2, ![512, 1]⟩
abbrev S1x1 : Shape := ⟨2, ![1, 1]⟩
abbrev S256x1 : Shape := ⟨2, ![256, 1]⟩
abbrev S1024x512 : Shape := ⟨2, ![1024, 512]⟩
abbrev S1024x2 : Shape := ⟨2, ![1024, 2]⟩
abbrev S_ : Shape := ⟨0, ![]⟩

abbrev nBuf : Space → Nat
  | .hbm => 21
  | .vmem => 16
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096, .i32⟩
  | .hbm, ⟨3, _⟩ => ⟨S512x256, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S2x512, .f32⟩
  | .hbm, ⟨8, _⟩ => ⟨S2, .f32⟩
  | .hbm, ⟨9, _⟩ => ⟨S4096x1, .i32⟩
  | .hbm, ⟨10, _⟩ => ⟨S512x2, .f32⟩
  | .hbm, ⟨11, _⟩ => ⟨S1x512, .f32⟩
  | .hbm, ⟨12, _⟩ => ⟨S1x512, .f32⟩
  | .hbm, ⟨13, _⟩ => ⟨S1x2, .f32⟩
  | .hbm, ⟨14, _⟩ => ⟨S4096x1, .i32⟩
  | .hbm, ⟨15, _⟩ => ⟨S4096x1, .f32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .i32⟩
  | .local _ .vmem, ⟨5, _⟩ => ⟨S1024x1, .i32⟩
  | .local _ .vmem, ⟨6, _⟩ => ⟨S512x256, .f32⟩
  | .local _ .vmem, ⟨7, _⟩ => ⟨S1x512, .f32⟩
  | .local _ .vmem, ⟨8, _⟩ => ⟨S512x512, .f32⟩
  | .local _ .vmem, ⟨9, _⟩ => ⟨S1x512, .f32⟩
  | .local _ .vmem, ⟨10, _⟩ => ⟨S512x2, .f32⟩
  | .local _ .vmem, ⟨11, _⟩ => ⟨S1x2, .f32⟩
  | .local _ .vmem, ⟨12, _⟩ => ⟨S1024x1, .i32⟩
  | .local _ .vmem, ⟨13, _⟩ => ⟨S1024x1, .i32⟩
  | .local _ .vmem, ⟨14, _⟩ => ⟨S1024x1, .f32⟩
  | .local _ .vmem, ⟨15, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S4096x256 : Shape := ⟨2, ![4096, 256]⟩
abbrev S4096 : Shape := ⟨1, ![4096]⟩
abbrev S512x256 : Shape := ⟨2, ![512, 256]⟩
abbrev S512 : Shape := ⟨1, ![512]⟩
abbrev S512x512 : Shape := ⟨2, ![512, 512]⟩
abbrev S2x512 : Shape := ⟨2, ![2, 512]⟩
abbrev S2 : Shape := ⟨1, ![2]⟩
abbrev S_ : Shape := ⟨0, ![]⟩
abbrev S256x512 : Shape := ⟨2, ![256, 512]⟩
abbrev S4096x512 : Shape := ⟨2, ![4096, 512]⟩
abbrev S1x512 : Shape := ⟨2, ![1, 512]⟩
abbrev S4096x1 : Shape := ⟨2, ![4096, 1]⟩
abbrev S1 : Shape := ⟨1, ![1]⟩
abbrev S4096x512x1 : Shape := ⟨3, ![4096, 512, 1]⟩
abbrev S1x1x1 : Shape := ⟨3, ![1, 1, 1]⟩

abbrev nBuf : Space → Nat
  | .hbm => 640
  | .vmem => 0
  | .smem => 0
  | _ => 0

abbrev hbmTy0_0 (i : Nat) : BufTy := match i % 128 with
  | 0 => ⟨S4096x256, .f32⟩
  | 1 => ⟨S4096x256, .f32⟩
  | 2 => ⟨S4096, .i32⟩
  | 3 => ⟨S512x256, .f32⟩
  | 4 => ⟨S512, .f32⟩
  | 5 => ⟨S512x512, .f32⟩
  | 6 => ⟨S512, .f32⟩
  | 7 => ⟨S2x512, .f32⟩
  | 8 => ⟨S2, .f32⟩
  | 9 => ⟨S4096x256, .f32⟩
  | 10 => ⟨S_, .f32⟩
  | 11 => ⟨S4096x256, .f32⟩
  | 12 => ⟨S4096x256, .f32⟩
  | 13 => ⟨S4096x256, .f32⟩
  | 14 => ⟨S_, .f32⟩
  | 15 => ⟨S4096x256, .f32⟩
  | 16 => ⟨S4096x256, .f32⟩
  | 17 => ⟨S256x512, .f32⟩
  | 18 => ⟨S4096x512, .f32⟩
  | 19 => ⟨S1x512, .f32⟩
  | 20 => ⟨S4096x512, .f32⟩
  | 21 => ⟨S4096x512, .f32⟩
  | 22 => ⟨S512x256, .f32⟩
  | 23 => ⟨S256x512, .f32⟩
  | 24 => ⟨S4096x512, .f32⟩
  | 25 => ⟨S4096x256, .f32⟩
  | 26 => ⟨S4096x256, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S4096x512, .f32⟩
  | 39 => ⟨S4096x512, .f32⟩
  | 40 => ⟨S_, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S4096x512, .f32⟩
  | 47 => ⟨S_, .f32⟩
  | 48 => ⟨S4096x512, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S512x512, .f32⟩
  | 55 => ⟨S4096x512, .f32⟩
  | 56 => ⟨S1x512, .f32⟩
  | 57 => ⟨S4096x512, .f32⟩
  | 58 => ⟨S4096x512, .f32⟩
  | 59 => ⟨S512x512, .f32⟩
  | 60 => ⟨S512x512, .f32⟩
  | 61 => ⟨S4096x512, .f32⟩
  | 62 => ⟨S4096x512, .f32⟩
  | 63 => ⟨S4096x512, .f32⟩
  | 64 => ⟨S_, .f32⟩
  | 65 => ⟨S4096, .f32⟩
  | 66 => ⟨S4096x1, .f32⟩
  | 67 => ⟨S_, .f32⟩
  | 68 => ⟨S4096x1, .f32⟩
  | 69 => ⟨S4096x1, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x512, .f32⟩
  | 76 => ⟨S4096x512, .f32⟩
  | 77 => ⟨S_, .f32⟩
  | 78 => ⟨S4096x512, .f32⟩
  | 79 => ⟨S4096x512, .f32⟩
  | 80 => ⟨S_, .f32⟩
  | 81 => ⟨S4096x512, .f32⟩
  | 82 => ⟨S4096x512, .f32⟩
  | 83 => ⟨S4096x256, .f32⟩
  | 84 => ⟨S_, .f32⟩
  | 85 => ⟨S4096x256, .f32⟩
  | 86 => ⟨S4096x256, .f32⟩
  | 87 => ⟨S4096x256, .f32⟩
  | 88 => ⟨S_, .f32⟩
  | 89 => ⟨S4096x256, .f32⟩
  | 90 => ⟨S4096x256, .f32⟩
  | 91 => ⟨S256x512, .f32⟩
  | 92 => ⟨S4096x512, .f32⟩
  | 93 => ⟨S1x512, .f32⟩
  | 94 => ⟨S4096x512, .f32⟩
  | 95 => ⟨S4096x512, .f32⟩
  | 96 => ⟨S512x256, .f32⟩
  | 97 => ⟨S256x512, .f32⟩
  | 98 => ⟨S4096x512, .f32⟩
  | 99 => ⟨S4096x256, .f32⟩
  | 100 => ⟨S4096x256, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S4096x512, .f32⟩
  | 108 => ⟨S4096x512, .f32⟩
  | 109 => ⟨S_, .f32⟩
  | 110 => ⟨S4096x512, .f32⟩
  | 111 => ⟨S4096x512, .f32⟩
  | 112 => ⟨S4096x512, .f32⟩
  | 113 => ⟨S4096x512, .f32⟩
  | 114 => ⟨S_, .f32⟩
  | 115 => ⟨S4096x512, .f32⟩
  | 116 => ⟨S4096x512, .f32⟩
  | 117 => ⟨S_, .f32⟩
  | 118 => ⟨S4096x512, .f32⟩
  | 119 => ⟨S4096x512, .f32⟩
  | 120 => ⟨S4096x512, .f32⟩
  | 121 => ⟨S_, .f32⟩
  | 122 => ⟨S4096x512, .f32⟩
  | 123 => ⟨S4096x512, .f32⟩
  | 124 => ⟨S4096x512, .f32⟩
  | 125 => ⟨S_, .f32⟩
  | 126 => ⟨S4096x512, .f32⟩
  | 127 => ⟨S4096x512, .f32⟩
  | _ => ⟨S4096x256, .f32⟩

abbrev hbmTy0_1 (i : Nat) : BufTy := match i % 128 with
  | 0 => ⟨S512x512, .f32⟩
  | 1 => ⟨S4096x512, .f32⟩
  | 2 => ⟨S1x512, .f32⟩
  | 3 => ⟨S4096x512, .f32⟩
  | 4 => ⟨S4096x512, .f32⟩
  | 5 => ⟨S512x512, .f32⟩
  | 6 => ⟨S512x512, .f32⟩
  | 7 => ⟨S4096x512, .f32⟩
  | 8 => ⟨S4096x512, .f32⟩
  | 9 => ⟨S4096x512, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S1x512, .f32⟩
  | 30 => ⟨S512, .f32⟩
  | 31 => ⟨S1x512, .f32⟩
  | 32 => ⟨S512, .f32⟩
  | 33 => ⟨S512, .f32⟩
  | 34 => ⟨S1, .f32⟩
  | 35 => ⟨S_, .f32⟩
  | 36 => ⟨S1, .f32⟩
  | 37 => ⟨S_, .f32⟩
  | 38 => ⟨S_, .f32⟩
  | 39 => ⟨S_, .f32⟩
  | 40 => ⟨S512, .f32⟩
  | 41 => ⟨S512, .f32⟩
  | 42 => ⟨S_, .f32⟩
  | 43 => ⟨S512, .f32⟩
  | 44 => ⟨S512, .f32⟩
  | 45 => ⟨S1x512, .f32⟩
  | 46 => ⟨S4096x512, .f32⟩
  | 47 => ⟨S4096x512, .f32⟩
  | 48 => ⟨S1x512, .f32⟩
  | 49 => ⟨S4096x512, .f32⟩
  | 50 => ⟨S4096x512, .f32⟩
  | 51 => ⟨S4096x512, .f32⟩
  | 52 => ⟨S1x512, .f32⟩
  | 53 => ⟨S4096x512, .f32⟩
  | 54 => ⟨S4096x512, .f32⟩
  | 55 => ⟨S1x512, .f32⟩
  | 56 => ⟨S4096x512, .f32⟩
  | 57 => ⟨S4096x512, .f32⟩
  | 58 => ⟨S4096x512, .f32⟩
  | 59 => ⟨S1x512, .f32⟩
  | 60 => ⟨S4096x512, .f32⟩
  | 61 => ⟨S4096x512, .f32⟩
  | 62 => ⟨S1x512, .f32⟩
  | 63 => ⟨S4096x512, .f32⟩
  | 64 => ⟨S4096x512, .f32⟩
  | 65 => ⟨S4096x512, .f32⟩
  | 66 => ⟨S1x512, .f32⟩
  | 67 => ⟨S4096x512, .f32⟩
  | 68 => ⟨S4096x512, .f32⟩
  | 69 => ⟨S1x512, .f32⟩
  | 70 => ⟨S4096x512, .f32⟩
  | 71 => ⟨S4096x512, .f32⟩
  | 72 => ⟨S4096x512, .f32⟩
  | 73 => ⟨S_, .f32⟩
  | 74 => ⟨S_, .f32⟩
  | 75 => ⟨S4096x512, .f32⟩
  | 76 => ⟨S_, .f32⟩
  | 77 => ⟨S4096x512, .f32⟩
  | 78 => ⟨S4096x512, .f32⟩
  | 79 => ⟨S1x512, .f32⟩
  | 80 => ⟨S4096x512, .f32⟩
  | 81 => ⟨S4096x512, .f32⟩
  | 82 => ⟨S4096x512, .f32⟩
  | 83 => ⟨S_, .f32⟩
  | 84 => ⟨S4096, .f32⟩
  | 85 => ⟨S4096, .f32⟩
  | 86 => ⟨S4096, .f32⟩
  | 87 => ⟨S_, .f32⟩
  | 88 => ⟨S_, .f32⟩
  | 89 => ⟨S4096x512, .f32⟩
  | 90 => ⟨S_, .f32⟩
  | 91 => ⟨S4096x512, .f32⟩
  | 92 => ⟨S4096x512, .f32⟩
  | 93 => ⟨S1x512, .f32⟩
  | 94 => ⟨S4096x512, .f32⟩
  | 95 => ⟨S4096x512, .f32⟩
  | 96 => ⟨S4096x512, .f32⟩
  | 97 => ⟨S_, .f32⟩
  | 98 => ⟨S4096, .f32⟩
  | 99 => ⟨S4096, .f32⟩
  | 100 => ⟨S4096, .f32⟩
  | 101 => ⟨S_, .f32⟩
  | 102 => ⟨S512, .f32⟩
  | 103 => ⟨S512, .f32⟩
  | 104 => ⟨S_, .f32⟩
  | 105 => ⟨S512, .f32⟩
  | 106 => ⟨S512, .f32⟩
  | 107 => ⟨S1x512, .f32⟩
  | 108 => ⟨S4096x512, .f32⟩
  | 109 => ⟨S4096x512, .f32⟩
  | 110 => ⟨S1x512, .f32⟩
  | 111 => ⟨S4096x512, .f32⟩
  | 112 => ⟨S4096x512, .f32⟩
  | 113 => ⟨S4096x512, .f32⟩
  | 114 => ⟨S1x512, .f32⟩
  | 115 => ⟨S4096x512, .f32⟩
  | 116 => ⟨S4096x512, .f32⟩
  | 117 => ⟨S1x512, .f32⟩
  | 118 => ⟨S4096x512, .f32⟩
  | 119 => ⟨S4096x512, .f32⟩
  | 120 => ⟨S4096x512, .f32⟩
  | 121 => ⟨S1x512, .f32⟩
  | 122 => ⟨S4096x512, .f32⟩
  | 123 => ⟨S4096x512, .f32⟩
  | 124 => ⟨S1x512, .f32⟩
  | 125 => ⟨S4096x512, .f32⟩
  | 126 => ⟨S4096x512, .f32⟩
  | 127 => ⟨S4096x512, .f32⟩
  | _ => ⟨S4096x256, .f32⟩

abbrev hbmTy0_2 (i : Nat) : BufTy := match i % 128 with
  | 0 => ⟨S1x512, .f32⟩
  | 1 => ⟨S4096x512, .f32⟩
  | 2 => ⟨S4096x512, .f32⟩
  | 3 => ⟨S1x512, .f32⟩
  | 4 => ⟨S4096x512, .f32⟩
  | 5 => ⟨S4096x512, .f32⟩
  | 6 => ⟨S4096x512, .f32⟩
  | 7 => ⟨S_, .f32⟩
  | 8 => ⟨S_, .f32⟩
  | 9 => ⟨S4096x512, .f32⟩
  | 10 => ⟨S_, .f32⟩
  | 11 => ⟨S4096x512, .f32⟩
  | 12 => ⟨S4096x512, .f32⟩
  | 13 => ⟨S1x512, .f32⟩
  | 14 => ⟨S4096x512, .f32⟩
  | 15 => ⟨S4096x512, .f32⟩
  | 16 => ⟨S4096x512, .f32⟩
  | 17 => ⟨S_, .f32⟩
  | 18 => ⟨S4096, .f32⟩
  | 19 => ⟨S4096, .f32⟩
  | 20 => ⟨S4096, .f32⟩
  | 21 => ⟨S_, .f32⟩
  | 22 => ⟨S_, .f32⟩
  | 23 => ⟨S4096x512, .f32⟩
  | 24 => ⟨S_, .f32⟩
  | 25 => ⟨S4096x512, .f32⟩
  | 26 => ⟨S4096x512, .f32⟩
  | 27 => ⟨S1x512, .f32⟩
  | 28 => ⟨S4096x512, .f32⟩
  | 29 => ⟨S4096x512, .f32⟩
  | 30 => ⟨S4096x512, .f32⟩
  | 31 => ⟨S_, .f32⟩
  | 32 => ⟨S4096, .f32⟩
  | 33 => ⟨S4096, .f32⟩
  | 34 => ⟨S4096, .f32⟩
  | 35 => ⟨S_, .f32⟩
  | 36 => ⟨S512, .f32⟩
  | 37 => ⟨S512, .f32⟩
  | 38 => ⟨S_, .f32⟩
  | 39 => ⟨S512, .f32⟩
  | 40 => ⟨S512, .f32⟩
  | 41 => ⟨S4096x512, .f32⟩
  | 42 => ⟨S4096x512, .f32⟩
  | 43 => ⟨S4096, .f32⟩
  | 44 => ⟨S4096, .f32⟩
  | 45 => ⟨S_, .f32⟩
  | 46 => ⟨S4096x512, .f32⟩
  | 47 => ⟨S4096x512, .i1⟩
  | 48 => ⟨S_, .f32⟩
  | 49 => ⟨S4096x512, .f32⟩
  | 50 => ⟨S4096x512, .i1⟩
  | 51 => ⟨S_, .f32⟩
  | 52 => ⟨S4096x512, .f32⟩
  | 53 => ⟨S4096x512, .i1⟩
  | 54 => ⟨S4096x512, .i1⟩
  | 55 => ⟨S4096x512, .i1⟩
  | 56 => ⟨S4096x512, .f32⟩
  | 57 => ⟨S4096x512, .f32⟩
  | 58 => ⟨S4096x512, .f32⟩
  | 59 => ⟨S4096x512, .f32⟩
  | 60 => ⟨S_, .f32⟩
  | 61 => ⟨S4096, .f32⟩
  | 62 => ⟨S4096, .f32⟩
  | 63 => ⟨S4096x512, .f32⟩
  | 64 => ⟨S_, .f32⟩
  | 65 => ⟨S4096, .f32⟩
  | 66 => ⟨S4096, .f32⟩
  | 67 => ⟨S4096x512, .f32⟩
  | 68 => ⟨S_, .f32⟩
  | 69 => ⟨S4096x512, .f32⟩
  | 70 => ⟨S4096x512, .i1⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S4096x512, .f32⟩
  | 77 => ⟨S_, .f32⟩
  | 78 => ⟨S_, .f32⟩
  | 79 => ⟨S4096x512, .f32⟩
  | 80 => ⟨S4096x512, .f32⟩
  | 81 => ⟨S4096x512, .f32⟩
  | 82 => ⟨S512, .f32⟩
  | 83 => ⟨S1x512, .f32⟩
  | 84 => ⟨S4096x512, .f32⟩
  | 85 => ⟨S4096x512, .f32⟩
  | 86 => ⟨S4096x512, .f32⟩
  | 87 => ⟨S512, .f32⟩
  | 88 => ⟨S1x512, .f32⟩
  | 89 => ⟨S4096x512, .f32⟩
  | 90 => ⟨S4096x512, .f32⟩
  | 91 => ⟨S4096x512, .f32⟩
  | 92 => ⟨S4096x512, .i32⟩
  | 93 => ⟨S4096x512, .f32⟩
  | 94 => ⟨S4096x512, .i32⟩
  | 95 => ⟨S_, .i32⟩
  | 96 => ⟨S4096x512, .i32⟩
  | 97 => ⟨S4096x512, .i1⟩
  | 98 => ⟨S_, .i32⟩
  | 99 => ⟨S4096x512, .i32⟩
  | 100 => ⟨S4096x512, .i32⟩
  | 101 => ⟨S4096x512, .i32⟩
  | 102 => ⟨S4096x512x1, .i32⟩
  | 103 => ⟨S1, .i32⟩
  | 104 => ⟨S_, .i32⟩
  | 105 => ⟨S4096x512x1, .i32⟩
  | 106 => ⟨S4096x512x1, .i1⟩
  | 107 => ⟨S1x1x1, .i32⟩
  | 108 => ⟨S4096x512x1, .i32⟩
  | 109 => ⟨S4096x512x1, .i1⟩
  | 110 => ⟨S4096x512x1, .i1⟩
  | 111 => ⟨S_, .i1⟩
  | 112 => ⟨S4096x512, .i1⟩
  | 113 => ⟨S4096x512, .f32⟩
  | 114 => ⟨S_, .f32⟩
  | 115 => ⟨S4096x512, .f32⟩
  | 116 => ⟨S4096x512, .f32⟩
  | 117 => ⟨S_, .i32⟩
  | 118 => ⟨S4096x512, .i32⟩
  | 119 => ⟨S4096x512, .i1⟩
  | 120 => ⟨S_, .i32⟩
  | 121 => ⟨S4096x512, .i32⟩
  | 122 => ⟨S4096x512, .i32⟩
  | 123 => ⟨S4096x512, .i32⟩
  | 124 => ⟨S4096x512x1, .i32⟩
  | 125 => ⟨S1, .i32⟩
  | 126 => ⟨S_, .i32⟩
  | 127 => ⟨S4096x512x1, .i32⟩
  | _ => ⟨S4096x256, .f32⟩

abbrev hbmTy0_3 (i : Nat) : BufTy := match i % 128 with
  | 0 => ⟨S4096x512x1, .i1⟩
  | 1 => ⟨S1x1x1, .i32⟩
  | 2 => ⟨S4096x512x1, .i32⟩
  | 3 => ⟨S4096x512x1, .i1⟩
  | 4 => ⟨S4096x512x1, .i1⟩
  | 5 => ⟨S_, .i1⟩
  | 6 => ⟨S4096x512, .i1⟩
  | 7 => ⟨S4096x512, .f32⟩
  | 8 => ⟨S_, .f32⟩
  | 9 => ⟨S4096x512, .f32⟩
  | 10 => ⟨S4096x512, .f32⟩
  | 11 => ⟨S_, .i32⟩
  | 12 => ⟨S4096x512, .i32⟩
  | 13 => ⟨S4096x512, .i1⟩
  | 14 => ⟨S_, .i32⟩
  | 15 => ⟨S4096x512, .i32⟩
  | 16 => ⟨S4096x512, .i32⟩
  | 17 => ⟨S4096x512, .i32⟩
  | 18 => ⟨S4096x512x1, .i32⟩
  | 19 => ⟨S1, .i32⟩
  | 20 => ⟨S_, .i32⟩
  | 21 => ⟨S4096x512x1, .i32⟩
  | 22 => ⟨S4096x512x1, .i1⟩
  | 23 => ⟨S1x1x1, .i32⟩
  | 24 => ⟨S4096x512x1, .i32⟩
  | 25 => ⟨S4096x512x1, .i1⟩
  | 26 => ⟨S4096x512x1, .i1⟩
  | 27 => ⟨S_, .i1⟩
  | 28 => ⟨S4096x512, .i1⟩
  | 29 => ⟨S4096x512, .f32⟩
  | 30 => ⟨S_, .f32⟩
  | 31 => ⟨S4096x512, .f32⟩
  | 32 => ⟨S4096x512, .f32⟩
  | 33 => ⟨S_, .f32⟩
  | 34 => ⟨S_, .f32⟩
  | 35 => ⟨S4096x512, .f32⟩
  | 36 => ⟨S4096x1, .f32⟩
  | 37 => ⟨S4096x512, .f32⟩
  | 38 => ⟨S4096x512, .f32⟩
  | 39 => ⟨S_, .f32⟩
  | 40 => ⟨S4096x512, .f32⟩
  | 41 => ⟨S4096x512, .i1⟩
  | 42 => ⟨S_, .f32⟩
  | 43 => ⟨S4096x512, .f32⟩
  | 44 => ⟨S4096x512, .f32⟩
  | 45 => ⟨S4096x512, .f32⟩
  | 46 => ⟨S_, .f32⟩
  | 47 => ⟨S_, .f32⟩
  | 48 => ⟨S_, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S_, .f32⟩
  | 58 => ⟨S_, .f32⟩
  | 59 => ⟨S4096x512, .f32⟩
  | 60 => ⟨S4096x512, .f32⟩
  | 61 => ⟨S_, .f32⟩
  | 62 => ⟨S4096x512, .f32⟩
  | 63 => ⟨S4096x512, .i1⟩
  | 64 => ⟨S_, .f32⟩
  | 65 => ⟨S_, .f32⟩
  | 66 => ⟨S4096x512, .f32⟩
  | 67 => ⟨S4096x512, .f32⟩
  | 68 => ⟨S4096x512, .f32⟩
  | 69 => ⟨S_, .f32⟩
  | 70 => ⟨S4096, .f32⟩
  | 71 => ⟨S4096, .f32⟩
  | 72 => ⟨S_, .f32⟩
  | 73 => ⟨S4096, .f32⟩
  | 74 => ⟨S4096, .i1⟩
  | 75 => ⟨S_, .f32⟩
  | 76 => ⟨S_, .f32⟩
  | 77 => ⟨S4096, .f32⟩
  | 78 => ⟨S4096, .f32⟩
  | 79 => ⟨S4096, .f32⟩
  | 80 => ⟨S_, .f32⟩
  | 81 => ⟨S4096x512, .f32⟩
  | 82 => ⟨S4096x512, .i1⟩
  | 83 => ⟨S_, .f32⟩
  | 84 => ⟨S4096x512, .f32⟩
  | 85 => ⟨S4096x512, .i1⟩
  | 86 => ⟨S_, .f32⟩
  | 87 => ⟨S4096x512, .f32⟩
  | 88 => ⟨S4096x512, .i1⟩
  | 89 => ⟨S4096x512, .i1⟩
  | 90 => ⟨S4096x512, .i1⟩
  | 91 => ⟨S4096x512, .f32⟩
  | 92 => ⟨S4096x512, .f32⟩
  | 93 => ⟨S4096x512, .f32⟩
  | 94 => ⟨S4096x512, .f32⟩
  | 95 => ⟨S_, .f32⟩
  | 96 => ⟨S4096, .f32⟩
  | 97 => ⟨S4096, .f32⟩
  | 98 => ⟨S4096x512, .f32⟩
  | 99 => ⟨S_, .f32⟩
  | 100 => ⟨S4096, .f32⟩
  | 101 => ⟨S4096, .f32⟩
  | 102 => ⟨S4096x512, .f32⟩
  | 103 => ⟨S_, .f32⟩
  | 104 => ⟨S4096x512, .f32⟩
  | 105 => ⟨S4096x512, .i1⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S4096x512, .f32⟩
  | 112 => ⟨S_, .f32⟩
  | 113 => ⟨S_, .f32⟩
  | 114 => ⟨S4096x512, .f32⟩
  | 115 => ⟨S4096x512, .f32⟩
  | 116 => ⟨S4096x512, .f32⟩
  | 117 => ⟨S512, .f32⟩
  | 118 => ⟨S1x512, .f32⟩
  | 119 => ⟨S4096x512, .f32⟩
  | 120 => ⟨S4096x512, .f32⟩
  | 121 => ⟨S4096x512, .f32⟩
  | 122 => ⟨S512, .f32⟩
  | 123 => ⟨S1x512, .f32⟩
  | 124 => ⟨S4096x512, .f32⟩
  | 125 => ⟨S4096x512, .f32⟩
  | 126 => ⟨S4096x512, .f32⟩
  | 127 => ⟨S4096x512, .i32⟩
  | _ => ⟨S4096x256, .f32⟩

abbrev hbmTy0_4 (i : Nat) : BufTy := match i % 128 with
  | 0 => ⟨S4096x512, .f32⟩
  | 1 => ⟨S4096x512, .i32⟩
  | 2 => ⟨S_, .i32⟩
  | 3 => ⟨S4096x512, .i32⟩
  | 4 => ⟨S4096x512, .i1⟩
  | 5 => ⟨S_, .i32⟩
  | 6 => ⟨S4096x512, .i32⟩
  | 7 => ⟨S4096x512, .i32⟩
  | 8 => ⟨S4096x512, .i32⟩
  | 9 => ⟨S4096x512x1, .i32⟩
  | 10 => ⟨S1, .i32⟩
  | 11 => ⟨S_, .i32⟩
  | 12 => ⟨S4096x512x1, .i32⟩
  | 13 => ⟨S4096x512x1, .i1⟩
  | 14 => ⟨S1x1x1, .i32⟩
  | 15 => ⟨S4096x512x1, .i32⟩
  | 16 => ⟨S4096x512x1, .i1⟩
  | 17 => ⟨S4096x512x1, .i1⟩
  | 18 => ⟨S_, .i1⟩
  | 19 => ⟨S4096x512, .i1⟩
  | 20 => ⟨S4096x512, .f32⟩
  | 21 => ⟨S_, .f32⟩
  | 22 => ⟨S4096x512, .f32⟩
  | 23 => ⟨S4096x512, .f32⟩
  | 24 => ⟨S_, .i32⟩
  | 25 => ⟨S4096x512, .i32⟩
  | 26 => ⟨S4096x512, .i1⟩
  | 27 => ⟨S_, .i32⟩
  | 28 => ⟨S4096x512, .i32⟩
  | 29 => ⟨S4096x512, .i32⟩
  | 30 => ⟨S4096x512, .i32⟩
  | 31 => ⟨S4096x512x1, .i32⟩
  | 32 => ⟨S1, .i32⟩
  | 33 => ⟨S_, .i32⟩
  | 34 => ⟨S4096x512x1, .i32⟩
  | 35 => ⟨S4096x512x1, .i1⟩
  | 36 => ⟨S1x1x1, .i32⟩
  | 37 => ⟨S4096x512x1, .i32⟩
  | 38 => ⟨S4096x512x1, .i1⟩
  | 39 => ⟨S4096x512x1, .i1⟩
  | 40 => ⟨S_, .i1⟩
  | 41 => ⟨S4096x512, .i1⟩
  | 42 => ⟨S4096x512, .f32⟩
  | 43 => ⟨S_, .f32⟩
  | 44 => ⟨S4096x512, .f32⟩
  | 45 => ⟨S4096x512, .f32⟩
  | 46 => ⟨S_, .i32⟩
  | 47 => ⟨S4096x512, .i32⟩
  | 48 => ⟨S4096x512, .i1⟩
  | 49 => ⟨S_, .i32⟩
  | 50 => ⟨S4096x512, .i32⟩
  | 51 => ⟨S4096x512, .i32⟩
  | 52 => ⟨S4096x512, .i32⟩
  | 53 => ⟨S4096x512x1, .i32⟩
  | 54 => ⟨S1, .i32⟩
  | 55 => ⟨S_, .i32⟩
  | 56 => ⟨S4096x512x1, .i32⟩
  | 57 => ⟨S4096x512x1, .i1⟩
  | 58 => ⟨S1x1x1, .i32⟩
  | 59 => ⟨S4096x512x1, .i32⟩
  | 60 => ⟨S4096x512x1, .i1⟩
  | 61 => ⟨S4096x512x1, .i1⟩
  | 62 => ⟨S_, .i1⟩
  | 63 => ⟨S4096x512, .i1⟩
  | 64 => ⟨S4096x512, .f32⟩
  | 65 => ⟨S_, .f32⟩
  | 66 => ⟨S4096x512, .f32⟩
  | 67 => ⟨S4096x512, .f32⟩
  | 68 => ⟨S_, .f32⟩
  | 69 => ⟨S_, .f32⟩
  | 70 => ⟨S4096x512, .f32⟩
  | 71 => ⟨S4096x1, .f32⟩
  | 72 => ⟨S4096x512, .f32⟩
  | 73 => ⟨S4096x512, .f32⟩
  | 74 => ⟨S_, .f32⟩
  | 75 => ⟨S4096x512, .f32⟩
  | 76 => ⟨S4096x512, .i1⟩
  | 77 => ⟨S_, .f32⟩
  | 78 => ⟨S4096x512, .f32⟩
  | 79 => ⟨S4096x512, .f32⟩
  | 80 => ⟨S4096x512, .f32⟩
  | 81 => ⟨S_, .f32⟩
  | 82 => ⟨S_, .f32⟩
  | 83 => ⟨S_, .f32⟩
  | 84 => ⟨S4096x512, .f32⟩
  | 85 => ⟨S4096x512, .f32⟩
  | 86 => ⟨S_, .f32⟩
  | 87 => ⟨S4096x512, .f32⟩
  | 88 => ⟨S4096x512, .f32⟩
  | 89 => ⟨S_, .f32⟩
  | 90 => ⟨S4096x512, .f32⟩
  | 91 => ⟨S4096x512, .f32⟩
  | 92 => ⟨S_, .f32⟩
  | 93 => ⟨S_, .f32⟩
  | 94 => ⟨S4096x512, .f32⟩
  | 95 => ⟨S4096x512, .f32⟩
  | 96 => ⟨S_, .f32⟩
  | 97 => ⟨S4096x512, .f32⟩
  | 98 => ⟨S4096x512, .i1⟩
  | 99 => ⟨S_, .f32⟩
  | 100 => ⟨S_, .f32⟩
  | 101 => ⟨S4096x512, .f32⟩
  | 102 => ⟨S4096x512, .f32⟩
  | 103 => ⟨S4096x512, .f32⟩
  | 104 => ⟨S_, .f32⟩
  | 105 => ⟨S4096, .f32⟩
  | 106 => ⟨S4096, .f32⟩
  | 107 => ⟨S_, .f32⟩
  | 108 => ⟨S4096, .f32⟩
  | 109 => ⟨S4096, .i1⟩
  | 110 => ⟨S_, .f32⟩
  | 111 => ⟨S_, .f32⟩
  | 112 => ⟨S4096, .f32⟩
  | 113 => ⟨S4096, .f32⟩
  | 114 => ⟨S_, .i32⟩
  | 115 => ⟨S4096, .i32⟩
  | 116 => ⟨S4096, .i1⟩
  | 117 => ⟨S_, .f32⟩
  | 118 => ⟨S4096, .f32⟩
  | 119 => ⟨S4096, .i1⟩
  | 120 => ⟨S_, .f32⟩
  | 121 => ⟨S4096, .f32⟩
  | 122 => ⟨S4096, .i1⟩
  | 123 => ⟨S4096, .i1⟩
  | 124 => ⟨S_, .i32⟩
  | 125 => ⟨S4096, .i32⟩
  | 126 => ⟨S4096, .i1⟩
  | 127 => ⟨S4096, .f32⟩
  | _ => ⟨S4096x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_cst_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_cst_19 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_20 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_21 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_22 : Ref sig .tc := ⟨.hbm, 138, rfl⟩
abbrev main_v106 : Ref sig .tc := ⟨.hbm, 139, rfl⟩
abbrev main_v107 : Ref sig .tc := ⟨.hbm, 140, rfl⟩
abbrev main_cst_23 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_24 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_25 : Ref sig .tc := ⟨.hbm, 151, rfl⟩
abbrev main_v116 : Ref sig .tc := ⟨.hbm, 152, rfl⟩
abbrev main_v117 : Ref sig .tc := ⟨.hbm, 153, rfl⟩
abbrev main_cst_26 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_27 : Ref sig .tc := ⟨.hbm, 167, rfl⟩
abbrev main_v130 : Ref sig .tc := ⟨.hbm, 168, rfl⟩
abbrev main_v131 : Ref sig .tc := ⟨.hbm, 169, rfl⟩
abbrev main_cst_28 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_29 : Ref sig .tc := ⟨.hbm, 201, rfl⟩
abbrev main_v162 : Ref sig .tc := ⟨.hbm, 202, rfl⟩
abbrev main_v163 : Ref sig .tc := ⟨.hbm, 203, rfl⟩
abbrev main_cst_30 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_31 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_cst_32 : Ref sig .tc := ⟨.hbm, 215, rfl⟩
abbrev main_v173 : Ref sig .tc := ⟨.hbm, 216, rfl⟩
abbrev main_v174 : Ref sig .tc := ⟨.hbm, 217, rfl⟩
abbrev main_cst_33 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_cst_34 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_cst_35 : Ref sig .tc := ⟨.hbm, 229, rfl⟩
abbrev main_v184 : Ref sig .tc := ⟨.hbm, 230, rfl⟩
abbrev main_v185 : Ref sig .tc := ⟨.hbm, 231, rfl⟩
abbrev main_cst_36 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_cst_37 : Ref sig .tc := ⟨.hbm, 263, rfl⟩
abbrev main_v216 : Ref sig .tc := ⟨.hbm, 264, rfl⟩
abbrev main_v217 : Ref sig .tc := ⟨.hbm, 265, rfl⟩
abbrev main_cst_38 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_cst_39 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_cst_40 : Ref sig .tc := ⟨.hbm, 277, rfl⟩
abbrev main_v227 : Ref sig .tc := ⟨.hbm, 278, rfl⟩
abbrev main_v228 : Ref sig .tc := ⟨.hbm, 279, rfl⟩
abbrev main_cst_41 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_cst_42 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_cst_43 : Ref sig .tc := ⟨.hbm, 291, rfl⟩
abbrev main_v238 : Ref sig .tc := ⟨.hbm, 292, rfl⟩
abbrev main_v239 : Ref sig .tc := ⟨.hbm, 293, rfl⟩
abbrev main_cst_44 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_cst_45 : Ref sig .tc := ⟨.hbm, 301, rfl⟩
abbrev main_v246 : Ref sig .tc := ⟨.hbm, 302, rfl⟩
abbrev main_v247 : Ref sig .tc := ⟨.hbm, 303, rfl⟩
abbrev main_cst_46 : Ref sig .tc := ⟨.hbm, 304, rfl⟩
abbrev main_v248 : Ref sig .tc := ⟨.hbm, 305, rfl⟩
abbrev main_v249 : Ref sig .tc := ⟨.hbm, 306, rfl⟩
abbrev main_cst_47 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_call0_v0 : Ref sig .tc := ⟨.hbm, 312, rfl⟩
abbrev main_call0_v1 : Ref sig .tc := ⟨.hbm, 313, rfl⟩
abbrev main_v254 : Ref sig .tc := ⟨.hbm, 314, rfl⟩
abbrev main_v255 : Ref sig .tc := ⟨.hbm, 315, rfl⟩
abbrev main_cst_48 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_cst_49 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_cst_50 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_cst_51 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_cst_52 : Ref sig .tc := ⟨.hbm, 333, rfl⟩
abbrev main_call1_v0 : Ref sig .tc := ⟨.hbm, 334, rfl⟩
abbrev main_call1_v1 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_call2_v0 : Ref sig .tc := ⟨.hbm, 348, rfl⟩
abbrev main_call2_v1_0 : Ref sig .tc := ⟨.hbm, 349, rfl⟩
abbrev main_v281 : Ref sig .tc := ⟨.hbm, 350, rfl⟩
abbrev main_call3_c : Ref sig .tc := ⟨.hbm, 351, rfl⟩
abbrev main_call3_v0 : Ref sig .tc := ⟨.hbm, 352, rfl⟩
abbrev main_call3_v1 : Ref sig .tc := ⟨.hbm, 353, rfl⟩
abbrev main_call3_c_0 : Ref sig .tc := ⟨.hbm, 354, rfl⟩
abbrev main_call3_v2 : Ref sig .tc := ⟨.hbm, 355, rfl⟩
abbrev main_call3_v3 : Ref sig .tc := ⟨.hbm, 356, rfl⟩
abbrev main_call3_v4 : Ref sig .tc := ⟨.hbm, 357, rfl⟩
abbrev main_call3_v5 : Ref sig .tc := ⟨.hbm, 358, rfl⟩
abbrev main_call3_c_1 : Ref sig .tc := ⟨.hbm, 359, rfl⟩
abbrev main_call3_c_2 : Ref sig .tc := ⟨.hbm, 360, rfl⟩
abbrev main_call3_v6 : Ref sig .tc := ⟨.hbm, 361, rfl⟩
abbrev main_call3_v7 : Ref sig .tc := ⟨.hbm, 362, rfl⟩
abbrev main_call3_v8 : Ref sig .tc := ⟨.hbm, 363, rfl⟩
abbrev main_call3_v9 : Ref sig .tc := ⟨.hbm, 364, rfl⟩
abbrev main_call3_v10 : Ref sig .tc := ⟨.hbm, 365, rfl⟩
abbrev main_call3_v11 : Ref sig .tc := ⟨.hbm, 366, rfl⟩
abbrev main_call3_c_3 : Ref sig .tc := ⟨.hbm, 367, rfl⟩
abbrev main_call3_v12 : Ref sig .tc := ⟨.hbm, 368, rfl⟩
abbrev main_call3_v13 : Ref sig .tc := ⟨.hbm, 369, rfl⟩
abbrev main_call3_cst : Ref sig .tc := ⟨.hbm, 370, rfl⟩
abbrev main_call3_v14 : Ref sig .tc := ⟨.hbm, 371, rfl⟩
abbrev main_v282 : Ref sig .tc := ⟨.hbm, 372, rfl⟩
abbrev main_call4_c : Ref sig .tc := ⟨.hbm, 373, rfl⟩
abbrev main_call4_v0 : Ref sig .tc := ⟨.hbm, 374, rfl⟩
abbrev main_call4_v1 : Ref sig .tc := ⟨.hbm, 375, rfl⟩
abbrev main_call4_c_0 : Ref sig .tc := ⟨.hbm, 376, rfl⟩
abbrev main_call4_v2 : Ref sig .tc := ⟨.hbm, 377, rfl⟩
abbrev main_call4_v3 : Ref sig .tc := ⟨.hbm, 378, rfl⟩
abbrev main_call4_v4 : Ref sig .tc := ⟨.hbm, 379, rfl⟩
abbrev main_call4_v5 : Ref sig .tc := ⟨.hbm, 380, rfl⟩
abbrev main_call4_c_1 : Ref sig .tc := ⟨.hbm, 381, rfl⟩
abbrev main_call4_c_2 : Ref sig .tc := ⟨.hbm, 382, rfl⟩
abbrev main_call4_v6 : Ref sig .tc := ⟨.hbm, 383, rfl⟩
abbrev main_call4_v7 : Ref sig .tc := ⟨.hbm, 384, rfl⟩
abbrev main_call4_v8 : Ref sig .tc := ⟨.hbm, 385, rfl⟩
abbrev main_call4_v9 : Ref sig .tc := ⟨.hbm, 386, rfl⟩
abbrev main_call4_v10 : Ref sig .tc := ⟨.hbm, 387, rfl⟩
abbrev main_call4_v11 : Ref sig .tc := ⟨.hbm, 388, rfl⟩
abbrev main_call4_c_3 : Ref sig .tc := ⟨.hbm, 389, rfl⟩
abbrev main_call4_v12 : Ref sig .tc := ⟨.hbm, 390, rfl⟩
abbrev main_call4_v13 : Ref sig .tc := ⟨.hbm, 391, rfl⟩
abbrev main_call4_cst : Ref sig .tc := ⟨.hbm, 392, rfl⟩
abbrev main_call4_v14 : Ref sig .tc := ⟨.hbm, 393, rfl⟩
abbrev main_v283 : Ref sig .tc := ⟨.hbm, 394, rfl⟩
abbrev main_call5_c : Ref sig .tc := ⟨.hbm, 395, rfl⟩
abbrev main_call5_v0 : Ref sig .tc := ⟨.hbm, 396, rfl⟩
abbrev main_call5_v1 : Ref sig .tc := ⟨.hbm, 397, rfl⟩
abbrev main_call5_c_0 : Ref sig .tc := ⟨.hbm, 398, rfl⟩
abbrev main_call5_v2 : Ref sig .tc := ⟨.hbm, 399, rfl⟩
abbrev main_call5_v3 : Ref sig .tc := ⟨.hbm, 400, rfl⟩
abbrev main_call5_v4 : Ref sig .tc := ⟨.hbm, 401, rfl⟩
abbrev main_call5_v5 : Ref sig .tc := ⟨.hbm, 402, rfl⟩
abbrev main_call5_c_1 : Ref sig .tc := ⟨.hbm, 403, rfl⟩
abbrev main_call5_c_2 : Ref sig .tc := ⟨.hbm, 404, rfl⟩
abbrev main_call5_v6 : Ref sig .tc := ⟨.hbm, 405, rfl⟩
abbrev main_call5_v7 : Ref sig .tc := ⟨.hbm, 406, rfl⟩
abbrev main_call5_v8 : Ref sig .tc := ⟨.hbm, 407, rfl⟩
abbrev main_call5_v9 : Ref sig .tc := ⟨.hbm, 408, rfl⟩
abbrev main_call5_v10 : Ref sig .tc := ⟨.hbm, 409, rfl⟩
abbrev main_call5_v11 : Ref sig .tc := ⟨.hbm, 410, rfl⟩
abbrev main_call5_c_3 : Ref sig .tc := ⟨.hbm, 411, rfl⟩
abbrev main_call5_v12 : Ref sig .tc := ⟨.hbm, 412, rfl⟩
abbrev main_call5_v13 : Ref sig .tc := ⟨.hbm, 413, rfl⟩
abbrev main_call5_cst : Ref sig .tc := ⟨.hbm, 414, rfl⟩
abbrev main_call5_v14 : Ref sig .tc := ⟨.hbm, 415, rfl⟩
abbrev main_v284 : Ref sig .tc := ⟨.hbm, 416, rfl⟩
abbrev main_call6_call0_cst : Ref sig .tc := ⟨.hbm, 417, rfl⟩
abbrev main_call6_call0_v0 : Ref sig .tc := ⟨.hbm, 418, rfl⟩
abbrev main_v285 : Ref sig .tc := ⟨.hbm, 419, rfl⟩
abbrev main_v286 : Ref sig .tc := ⟨.hbm, 420, rfl⟩
abbrev main_v287 : Ref sig .tc := ⟨.hbm, 421, rfl⟩
abbrev main_v288 : Ref sig .tc := ⟨.hbm, 422, rfl⟩
abbrev main_cst_53 : Ref sig .tc := ⟨.hbm, 423, rfl⟩
abbrev main_v289 : Ref sig .tc := ⟨.hbm, 424, rfl⟩
abbrev main_v290 : Ref sig .tc := ⟨.hbm, 425, rfl⟩
abbrev main_cst_54 : Ref sig .tc := ⟨.hbm, 426, rfl⟩
abbrev main_v291 : Ref sig .tc := ⟨.hbm, 427, rfl⟩
abbrev main_v292 : Ref sig .tc := ⟨.hbm, 428, rfl⟩
abbrev main_v293 : Ref sig .tc := ⟨.hbm, 429, rfl⟩
abbrev main_cst_55 : Ref sig .tc := ⟨.hbm, 430, rfl⟩
abbrev main_cst_56 : Ref sig .tc := ⟨.hbm, 431, rfl⟩
abbrev main_call7_v0 : Ref sig .tc := ⟨.hbm, 432, rfl⟩
abbrev main_call7_v1 : Ref sig .tc := ⟨.hbm, 433, rfl⟩
abbrev main_call7_v2 : Ref sig .tc := ⟨.hbm, 434, rfl⟩
abbrev main_call7_v3 : Ref sig .tc := ⟨.hbm, 435, rfl⟩
abbrev main_call7_v4 : Ref sig .tc := ⟨.hbm, 436, rfl⟩
abbrev main_v294 : Ref sig .tc := ⟨.hbm, 437, rfl⟩
abbrev main_cst_57 : Ref sig .tc := ⟨.hbm, 438, rfl⟩
abbrev main_v295 : Ref sig .tc := ⟨.hbm, 439, rfl⟩
abbrev main_v296 : Ref sig .tc := ⟨.hbm, 440, rfl⟩
abbrev main_cst_58 : Ref sig .tc := ⟨.hbm, 441, rfl⟩
abbrev main_call8_v0 : Ref sig .tc := ⟨.hbm, 442, rfl⟩
abbrev main_call8_v1 : Ref sig .tc := ⟨.hbm, 443, rfl⟩
abbrev main_v297 : Ref sig .tc := ⟨.hbm, 444, rfl⟩
abbrev main_cst_59 : Ref sig .tc := ⟨.hbm, 445, rfl⟩
abbrev main_v298 : Ref sig .tc := ⟨.hbm, 446, rfl⟩
abbrev main_v299 : Ref sig .tc := ⟨.hbm, 447, rfl⟩
abbrev main_cst_60 : Ref sig .tc := ⟨.hbm, 448, rfl⟩
abbrev main_call9_v0 : Ref sig .tc := ⟨.hbm, 449, rfl⟩
abbrev main_call9_v1 : Ref sig .tc := ⟨.hbm, 450, rfl⟩
abbrev main_v300 : Ref sig .tc := ⟨.hbm, 451, rfl⟩
abbrev main_v301 : Ref sig .tc := ⟨.hbm, 452, rfl⟩
abbrev main_cst_61 : Ref sig .tc := ⟨.hbm, 453, rfl⟩
abbrev main_v302 : Ref sig .tc := ⟨.hbm, 454, rfl⟩
abbrev main_v303 : Ref sig .tc := ⟨.hbm, 455, rfl⟩
abbrev main_cst_62 : Ref sig .tc := ⟨.hbm, 456, rfl⟩
abbrev main_v304 : Ref sig .tc := ⟨.hbm, 457, rfl⟩
abbrev main_v305 : Ref sig .tc := ⟨.hbm, 458, rfl⟩
abbrev main_cst_63 : Ref sig .tc := ⟨.hbm, 459, rfl⟩
abbrev main_call10_v0 : Ref sig .tc := ⟨.hbm, 460, rfl⟩
abbrev main_call10_v1 : Ref sig .tc := ⟨.hbm, 461, rfl⟩
abbrev main_v306 : Ref sig .tc := ⟨.hbm, 462, rfl⟩
abbrev main_v307 : Ref sig .tc := ⟨.hbm, 463, rfl⟩
abbrev main_cst_64 : Ref sig .tc := ⟨.hbm, 464, rfl⟩
abbrev main_v308 : Ref sig .tc := ⟨.hbm, 465, rfl⟩
abbrev main_v309 : Ref sig .tc := ⟨.hbm, 466, rfl⟩
abbrev main_cst_65 : Ref sig .tc := ⟨.hbm, 467, rfl⟩
abbrev main_v310 : Ref sig .tc := ⟨.hbm, 468, rfl⟩
abbrev main_v311 : Ref sig .tc := ⟨.hbm, 469, rfl⟩
abbrev main_cst_66 : Ref sig .tc := ⟨.hbm, 470, rfl⟩
abbrev main_v312 : Ref sig .tc := ⟨.hbm, 471, rfl⟩
abbrev main_v313 : Ref sig .tc := ⟨.hbm, 472, rfl⟩
abbrev main_v314 : Ref sig .tc := ⟨.hbm, 473, rfl⟩
abbrev main_v315 : Ref sig .tc := ⟨.hbm, 474, rfl⟩
abbrev main_call11_v0 : Ref sig .tc := ⟨.hbm, 475, rfl⟩
abbrev main_call11_v1 : Ref sig .tc := ⟨.hbm, 476, rfl⟩
abbrev main_v316 : Ref sig .tc := ⟨.hbm, 477, rfl⟩
abbrev main_v317 : Ref sig .tc := ⟨.hbm, 478, rfl⟩
abbrev main_cst_67 : Ref sig .tc := ⟨.hbm, 479, rfl⟩
abbrev main_v318 : Ref sig .tc := ⟨.hbm, 480, rfl⟩
abbrev main_v319 : Ref sig .tc := ⟨.hbm, 481, rfl⟩
abbrev main_v320 : Ref sig .tc := ⟨.hbm, 482, rfl⟩
abbrev main_cst_68 : Ref sig .tc := ⟨.hbm, 483, rfl⟩
abbrev main_v321 : Ref sig .tc := ⟨.hbm, 484, rfl⟩
abbrev main_v322 : Ref sig .tc := ⟨.hbm, 485, rfl⟩
abbrev main_v323 : Ref sig .tc := ⟨.hbm, 486, rfl⟩
abbrev main_cst_69 : Ref sig .tc := ⟨.hbm, 487, rfl⟩
abbrev main_v324 : Ref sig .tc := ⟨.hbm, 488, rfl⟩
abbrev main_v325 : Ref sig .tc := ⟨.hbm, 489, rfl⟩
abbrev main_v326 : Ref sig .tc := ⟨.hbm, 490, rfl⟩
abbrev main_v327 : Ref sig .tc := ⟨.hbm, 491, rfl⟩
abbrev main_cst_70 : Ref sig .tc := ⟨.hbm, 492, rfl⟩
abbrev main_v328 : Ref sig .tc := ⟨.hbm, 493, rfl⟩
abbrev main_v329 : Ref sig .tc := ⟨.hbm, 494, rfl⟩
abbrev main_v330 : Ref sig .tc := ⟨.hbm, 495, rfl⟩
abbrev main_cst_71 : Ref sig .tc := ⟨.hbm, 496, rfl⟩
abbrev main_call12_v0 : Ref sig .tc := ⟨.hbm, 497, rfl⟩
abbrev main_call12_v1 : Ref sig .tc := ⟨.hbm, 498, rfl⟩
abbrev main_v331 : Ref sig .tc := ⟨.hbm, 499, rfl⟩
abbrev main_v332 : Ref sig .tc := ⟨.hbm, 500, rfl⟩
abbrev main_v333 : Ref sig .tc := ⟨.hbm, 501, rfl⟩
abbrev main_v334 : Ref sig .tc := ⟨.hbm, 502, rfl⟩
abbrev main_v335 : Ref sig .tc := ⟨.hbm, 503, rfl⟩
abbrev main_v336 : Ref sig .tc := ⟨.hbm, 504, rfl⟩
abbrev main_v337 : Ref sig .tc := ⟨.hbm, 505, rfl⟩
abbrev main_v338 : Ref sig .tc := ⟨.hbm, 506, rfl⟩
abbrev main_v339 : Ref sig .tc := ⟨.hbm, 507, rfl⟩
abbrev main_v340 : Ref sig .tc := ⟨.hbm, 508, rfl⟩
abbrev main_v341 : Ref sig .tc := ⟨.hbm, 509, rfl⟩
abbrev main_v342 : Ref sig .tc := ⟨.hbm, 510, rfl⟩
abbrev main_call13_v0 : Ref sig .tc := ⟨.hbm, 511, rfl⟩
abbrev main_call13_v1_0 : Ref sig .tc := ⟨.hbm, 512, rfl⟩
abbrev main_v343 : Ref sig .tc := ⟨.hbm, 513, rfl⟩
abbrev main_call14_c : Ref sig .tc := ⟨.hbm, 514, rfl⟩
abbrev main_call14_v0 : Ref sig .tc := ⟨.hbm, 515, rfl⟩
abbrev main_call14_v1 : Ref sig .tc := ⟨.hbm, 516, rfl⟩
abbrev main_call14_c_0 : Ref sig .tc := ⟨.hbm, 517, rfl⟩
abbrev main_call14_v2 : Ref sig .tc := ⟨.hbm, 518, rfl⟩
abbrev main_call14_v3 : Ref sig .tc := ⟨.hbm, 519, rfl⟩
abbrev main_call14_v4 : Ref sig .tc := ⟨.hbm, 520, rfl⟩
abbrev main_call14_v5 : Ref sig .tc := ⟨.hbm, 521, rfl⟩
abbrev main_call14_c_1 : Ref sig .tc := ⟨.hbm, 522, rfl⟩
abbrev main_call14_c_2 : Ref sig .tc := ⟨.hbm, 523, rfl⟩
abbrev main_call14_v6 : Ref sig .tc := ⟨.hbm, 524, rfl⟩
abbrev main_call14_v7 : Ref sig .tc := ⟨.hbm, 525, rfl⟩
abbrev main_call14_v8 : Ref sig .tc := ⟨.hbm, 526, rfl⟩
abbrev main_call14_v9 : Ref sig .tc := ⟨.hbm, 527, rfl⟩
abbrev main_call14_v10 : Ref sig .tc := ⟨.hbm, 528, rfl⟩
abbrev main_call14_v11 : Ref sig .tc := ⟨.hbm, 529, rfl⟩
abbrev main_call14_c_3 : Ref sig .tc := ⟨.hbm, 530, rfl⟩
abbrev main_call14_v12 : Ref sig .tc := ⟨.hbm, 531, rfl⟩
abbrev main_call14_v13 : Ref sig .tc := ⟨.hbm, 532, rfl⟩
abbrev main_call14_cst : Ref sig .tc := ⟨.hbm, 533, rfl⟩
abbrev main_call14_v14 : Ref sig .tc := ⟨.hbm, 534, rfl⟩
abbrev main_v344 : Ref sig .tc := ⟨.hbm, 535, rfl⟩
abbrev main_call15_c : Ref sig .tc := ⟨.hbm, 536, rfl⟩
abbrev main_call15_v0 : Ref sig .tc := ⟨.hbm, 537, rfl⟩
abbrev main_call15_v1 : Ref sig .tc := ⟨.hbm, 538, rfl⟩
abbrev main_call15_c_0 : Ref sig .tc := ⟨.hbm, 539, rfl⟩
abbrev main_call15_v2 : Ref sig .tc := ⟨.hbm, 540, rfl⟩
abbrev main_call15_v3 : Ref sig .tc := ⟨.hbm, 541, rfl⟩
abbrev main_call15_v4 : Ref sig .tc := ⟨.hbm, 542, rfl⟩
abbrev main_call15_v5 : Ref sig .tc := ⟨.hbm, 543, rfl⟩
abbrev main_call15_c_1 : Ref sig .tc := ⟨.hbm, 544, rfl⟩
abbrev main_call15_c_2 : Ref sig .tc := ⟨.hbm, 545, rfl⟩
abbrev main_call15_v6 : Ref sig .tc := ⟨.hbm, 546, rfl⟩
abbrev main_call15_v7 : Ref sig .tc := ⟨.hbm, 547, rfl⟩
abbrev main_call15_v8 : Ref sig .tc := ⟨.hbm, 548, rfl⟩
abbrev main_call15_v9 : Ref sig .tc := ⟨.hbm, 549, rfl⟩
abbrev main_call15_v10 : Ref sig .tc := ⟨.hbm, 550, rfl⟩
abbrev main_call15_v11 : Ref sig .tc := ⟨.hbm, 551, rfl⟩
abbrev main_call15_c_3 : Ref sig .tc := ⟨.hbm, 552, rfl⟩
abbrev main_call15_v12 : Ref sig .tc := ⟨.hbm, 553, rfl⟩
abbrev main_call15_v13 : Ref sig .tc := ⟨.hbm, 554, rfl⟩
abbrev main_call15_cst : Ref sig .tc := ⟨.hbm, 555, rfl⟩
abbrev main_call15_v14 : Ref sig .tc := ⟨.hbm, 556, rfl⟩
abbrev main_v345 : Ref sig .tc := ⟨.hbm, 557, rfl⟩
abbrev main_call16_c : Ref sig .tc := ⟨.hbm, 558, rfl⟩
abbrev main_call16_v0 : Ref sig .tc := ⟨.hbm, 559, rfl⟩
abbrev main_call16_v1 : Ref sig .tc := ⟨.hbm, 560, rfl⟩
abbrev main_call16_c_0 : Ref sig .tc := ⟨.hbm, 561, rfl⟩
abbrev main_call16_v2 : Ref sig .tc := ⟨.hbm, 562, rfl⟩
abbrev main_call16_v3 : Ref sig .tc := ⟨.hbm, 563, rfl⟩
abbrev main_call16_v4 : Ref sig .tc := ⟨.hbm, 564, rfl⟩
abbrev main_call16_v5 : Ref sig .tc := ⟨.hbm, 565, rfl⟩
abbrev main_call16_c_1 : Ref sig .tc := ⟨.hbm, 566, rfl⟩
abbrev main_call16_c_2 : Ref sig .tc := ⟨.hbm, 567, rfl⟩
abbrev main_call16_v6 : Ref sig .tc := ⟨.hbm, 568, rfl⟩
abbrev main_call16_v7 : Ref sig .tc := ⟨.hbm, 569, rfl⟩
abbrev main_call16_v8 : Ref sig .tc := ⟨.hbm, 570, rfl⟩
abbrev main_call16_v9 : Ref sig .tc := ⟨.hbm, 571, rfl⟩
abbrev main_call16_v10 : Ref sig .tc := ⟨.hbm, 572, rfl⟩
abbrev main_call16_v11 : Ref sig .tc := ⟨.hbm, 573, rfl⟩
abbrev main_call16_c_3 : Ref sig .tc := ⟨.hbm, 574, rfl⟩
abbrev main_call16_v12 : Ref sig .tc := ⟨.hbm, 575, rfl⟩
abbrev main_call16_v13 : Ref sig .tc := ⟨.hbm, 576, rfl⟩
abbrev main_call16_cst : Ref sig .tc := ⟨.hbm, 577, rfl⟩
abbrev main_call16_v14 : Ref sig .tc := ⟨.hbm, 578, rfl⟩
abbrev main_v346 : Ref sig .tc := ⟨.hbm, 579, rfl⟩
abbrev main_call17_call0_cst : Ref sig .tc := ⟨.hbm, 580, rfl⟩
abbrev main_call17_call0_v0 : Ref sig .tc := ⟨.hbm, 581, rfl⟩
abbrev main_v347 : Ref sig .tc := ⟨.hbm, 582, rfl⟩
abbrev main_v348 : Ref sig .tc := ⟨.hbm, 583, rfl⟩
abbrev main_v349 : Ref sig .tc := ⟨.hbm, 584, rfl⟩
abbrev main_v350 : Ref sig .tc := ⟨.hbm, 585, rfl⟩
abbrev main_cst_72 : Ref sig .tc := ⟨.hbm, 586, rfl⟩
abbrev main_v351 : Ref sig .tc := ⟨.hbm, 587, rfl⟩
abbrev main_v352 : Ref sig .tc := ⟨.hbm, 588, rfl⟩
abbrev main_cst_73 : Ref sig .tc := ⟨.hbm, 589, rfl⟩
abbrev main_v353 : Ref sig .tc := ⟨.hbm, 590, rfl⟩
abbrev main_v354 : Ref sig .tc := ⟨.hbm, 591, rfl⟩
abbrev main_v355 : Ref sig .tc := ⟨.hbm, 592, rfl⟩
abbrev main_cst_74 : Ref sig .tc := ⟨.hbm, 593, rfl⟩
abbrev main_cst_75 : Ref sig .tc := ⟨.hbm, 594, rfl⟩
abbrev main_call18_v0 : Ref sig .tc := ⟨.hbm, 595, rfl⟩
abbrev main_call18_v1 : Ref sig .tc := ⟨.hbm, 596, rfl⟩
abbrev main_call18_v2 : Ref sig .tc := ⟨.hbm, 597, rfl⟩
abbrev main_call18_v3 : Ref sig .tc := ⟨.hbm, 598, rfl⟩
abbrev main_call18_v4 : Ref sig .tc := ⟨.hbm, 599, rfl⟩
abbrev main_v356 : Ref sig .tc := ⟨.hbm, 600, rfl⟩
abbrev main_cst_76 : Ref sig .tc := ⟨.hbm, 601, rfl⟩
abbrev main_v357 : Ref sig .tc := ⟨.hbm, 602, rfl⟩
abbrev main_v358 : Ref sig .tc := ⟨.hbm, 603, rfl⟩
abbrev main_cst_77 : Ref sig .tc := ⟨.hbm, 604, rfl⟩
abbrev main_call19_v0 : Ref sig .tc := ⟨.hbm, 605, rfl⟩
abbrev main_call19_v1 : Ref sig .tc := ⟨.hbm, 606, rfl⟩
abbrev main_v359 : Ref sig .tc := ⟨.hbm, 607, rfl⟩
abbrev main_cst_78 : Ref sig .tc := ⟨.hbm, 608, rfl⟩
abbrev main_v360 : Ref sig .tc := ⟨.hbm, 609, rfl⟩
abbrev main_v361 : Ref sig .tc := ⟨.hbm, 610, rfl⟩
abbrev main_cst_79 : Ref sig .tc := ⟨.hbm, 611, rfl⟩
abbrev main_call20_v0 : Ref sig .tc := ⟨.hbm, 612, rfl⟩
abbrev main_call20_v1 : Ref sig .tc := ⟨.hbm, 613, rfl⟩
abbrev main_v362 : Ref sig .tc := ⟨.hbm, 614, rfl⟩
abbrev main_v363 : Ref sig .tc := ⟨.hbm, 615, rfl⟩
abbrev main_cst_80 : Ref sig .tc := ⟨.hbm, 616, rfl⟩
abbrev main_v364 : Ref sig .tc := ⟨.hbm, 617, rfl⟩
abbrev main_v365 : Ref sig .tc := ⟨.hbm, 618, rfl⟩
abbrev main_cst_81 : Ref sig .tc := ⟨.hbm, 619, rfl⟩
abbrev main_v366 : Ref sig .tc := ⟨.hbm, 620, rfl⟩
abbrev main_v367 : Ref sig .tc := ⟨.hbm, 621, rfl⟩
abbrev main_cst_82 : Ref sig .tc := ⟨.hbm, 622, rfl⟩
abbrev main_call21_v0 : Ref sig .tc := ⟨.hbm, 623, rfl⟩
abbrev main_call21_v1 : Ref sig .tc := ⟨.hbm, 624, rfl⟩
abbrev main_v368 : Ref sig .tc := ⟨.hbm, 625, rfl⟩
abbrev main_c : Ref sig .tc := ⟨.hbm, 626, rfl⟩
abbrev main_v369 : Ref sig .tc := ⟨.hbm, 627, rfl⟩
abbrev main_v370 : Ref sig .tc := ⟨.hbm, 628, rfl⟩
abbrev main_cst_83 : Ref sig .tc := ⟨.hbm, 629, rfl⟩
abbrev main_v371 : Ref sig .tc := ⟨.hbm, 630, rfl⟩
abbrev main_v372 : Ref sig .tc := ⟨.hbm, 631, rfl⟩
abbrev main_cst_84 : Ref sig .tc := ⟨.hbm, 632, rfl⟩
abbrev main_v373 : Ref sig .tc := ⟨.hbm, 633, rfl⟩
abbrev main_v374 : Ref sig .tc := ⟨.hbm, 634, rfl⟩
abbrev main_v375 : Ref sig .tc := ⟨.hbm, 635, rfl⟩
abbrev main_c_85 : Ref sig .tc := ⟨.hbm, 636, rfl⟩
abbrev main_v376 : Ref sig .tc := ⟨.hbm, 637, rfl⟩
abbrev main_v377 : Ref sig .tc := ⟨.hbm, 638, rfl⟩
abbrev main_v378 : Ref sig .tc := ⟨.hbm, 639, rfl⟩

abbrev nD : Nat := 1
abbrev τ : Topo := Topo.v7x

variable {F : FTy → Type} [FloatOps F]
-- ==== Proof.Numbers.lean ====
/-
  Real numbers inside the extended reals: how the exact operations act on finite values, and the exact values of the
  float constants that the kernel and the reference write.
-/
module

public import Idealize.ShloMosaic.Lib.Pointwise

@[expose] public section

noncomputable section

namespace Cert.Bound

open Idealize.ShloMosaic

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals. -/
theorem coe_max (a b : ℝ) : max (a : EReal) (b : EReal) = ((max a b : ℝ) : EReal) :=
  (EReal.coe_strictMono.monotone.map_max (a := a) (b := b)).symm

/-- The smaller of two real numbers, taken in the extended reals. -/
theorem coe_min (a b : ℝ) : min (a : EReal) (b : EReal) = ((min a b : ℝ) : EReal) :=
  (EReal.coe_strictMono.monotone.map_min (a := a) (b := b)).symm

/-- The larger of a real number and zero. -/
theorem coe_max_zero (a : ℝ) : max (a : EReal) 0 = ((max a 0 : ℝ) : EReal) := coe_max a 0

/-- The larger of a real number and its negative is its absolute value. -/
theorem coe_abs (a : ℝ) : max (a : EReal) (-(a : EReal)) = ((|a| : ℝ) : EReal) := by
  rw [← EReal.coe_neg, coe_max]; rfl

/-- The exact quotient of two real numbers, the divisor not zero. -/
theorem coe_div (a b : ℝ) (hb : b ≠ 0) : Ideal.div (a : EReal) (b : EReal) = ((a / b : ℝ) : EReal) := by
  rw [Ideal.div_coe hb, ← EReal.coe_mul, mul_one_div]

/-- The value of the float nearest to one hundredth. -/
def eps : ℝ := 10737418 / 2 ^ 30

theorem eps_pos : 0 < eps := by unfold eps; norm_num

theorem ofBits_eps : Ideal.ofBits .f32 0x3C23D70A#32 = ((eps : ℝ) : EReal) := by
  unfold eps; simp [Ideal.ofBits, Ideal.ieee, -EReal.coe_mul]; norm_num

/-- The float nearest to two hundredths is twice that number exactly, -/
theorem ofBits_two_eps : Ideal.ofBits .f32 0x3CA3D70A#32 = ((2 * eps : ℝ) : EReal) := by
  unfold eps; simp [Ideal.ofBits, Ideal.ieee, -EReal.coe_mul]; norm_num

/-- and the float nearest to four hundredths four times. -/
theorem ofBits_four_eps : Ideal.ofBits .f32 0x3D23D70A#32 = ((4 * eps : ℝ) : EReal) := by
  unfold eps; simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_half_bf16 : Ideal.ofBits .bf16 0x3F00#16 = ((1 / 2 : ℝ) : EReal) := by
  simp [Ideal.ofBits, Ideal.ieee, -EReal.coe_mul]; norm_num

theorem ofBits_ten : Ideal.ofBits .f32 0x41200000#32 = ((10 : ℝ) : EReal) := by
  simp [Ideal.ofBits, Ideal.ieee, -EReal.coe_mul]; norm_num

theorem ofBits_neg_ten : Ideal.ofBits .f32 0xC1200000#32 = ((-10 : ℝ) : EReal) := by
  simp [Ideal.ofBits, Ideal.ieee, -EReal.coe_mul]; norm_num

/-- A word of one bit made from a decided proposition selects as the proposition does. -/
theorem select_ofBool {α : Type} (p : Prop) [Decidable p] (a b : α) :
    Scalar.select (BitVec.ofBool (decide p)) a b = if p then a else b := by
  by_cases h : p <;> simp [Scalar.select, h]

/-- So does the comparison of a label with zero. -/
theorem select_label {α : Type} (y : BitVec 32) (a b : α) :
    Scalar.select (IntOp.cmpi .eq y 0#32) a b = if y = 0#32 then a else b := by
  have e : IntOp.cmpi .eq y 0#32 = BitVec.ofBool (decide (y = 0#32)) := by
    show BitVec.ofBool (y == 0#32) = _
    exact congrArg BitVec.ofBool (by by_cases h : y = 0#32 <;> simp [h])
  rw [e, select_ofBool]

end Cert.Bound

end
-- ==== Proof.Spec.lean ====
/-
  What both programs compute, over real numbers: the interval bounds that two layers give for one row of inputs, the
  weight of the last layer's two rows against each other moved down and up, and the counterfactual bounds.
-/
module

public import proofs.«01_k».proof.Proof.Numbers

@[expose] public section

noncomputable section

namespace Cert.Bound

/-- The finite parameters: two layers' weights and biases, and the difference of the last layer's two rows. -/
structure Net where
  W1 : Fin 512 → Fin 256 → ℝ
  b1 : Fin 512 → ℝ
  W2 : Fin 512 → Fin 512 → ℝ
  b2 : Fin 512 → ℝ
  w : Fin 512 → ℝ

variable (n : Net) (x : Fin 256 → ℝ)

/-- The first layer's value at the middle of the weights' intervals. -/
def mid1 (j : Fin 512) : ℝ := (∑ k, x k * n.W1 j k) + n.b1 j
/-- How far the first layer's value can move. -/
def rad1 : ℝ := eps * (∑ k, |x k|) + eps
/-- The first layer's lower bound after the rectifier, -/
def lo1 (j : Fin 512) : ℝ := max (mid1 n x j - rad1 x) 0
/-- and its upper bound. -/
def hi1 (j : Fin 512) : ℝ := max (mid1 n x j + rad1 x) 0
/-- The second layer's value at the middle of the first layer's interval. -/
def mid2 (j : Fin 512) : ℝ := (∑ k, 1 / 2 * (lo1 n x k + hi1 n x k) * n.W2 j k) + n.b2 j
/-- How far the second layer's value can move. -/
def rad2 (j : Fin 512) : ℝ :=
  (∑ k, 1 / 2 * (hi1 n x k - lo1 n x k) * |n.W2 j k|) + (eps * (∑ k, hi1 n x k) + eps)
/-- The second layer's lower bound after the rectifier, -/
def lo2 (j : Fin 512) : ℝ := max (mid2 n x j - rad2 n x j) 0
/-- and its upper bound. -/
def hi2 (j : Fin 512) : ℝ := max (mid2 n x j + rad2 n x j) 0

/-- The last weight moved down by two hundredths, -/
def wlo (j : Fin 512) : ℝ := n.w j - 2 * eps
/-- and moved up. -/
def whi (j : Fin 512) : ℝ := n.w j + 2 * eps
/-- The least that the last layer's sum can be with the weight moved down. -/
def low : ℝ := ∑ j, min (lo2 n x j * wlo n j) (hi2 n x j * wlo n j)
/-- The most that the last layer's sum can be with the weight moved up. -/
def high : ℝ := ∑ j, max (lo2 n x j * whi n j) (hi2 n x j * whi n j)

/-- The lower counterfactual bound: where the original lower bound is at most zero the counterfactual's, else ten. -/
def cfLow (c : EReal) (a a' : ℝ) : EReal :=
  if (a : EReal) + (c - ((2 * eps : ℝ) : EReal)) ≤ 0 then (a' : EReal) + (c - ((2 * eps : ℝ) : EReal)) else ((10 : ℝ) : EReal)
/-- The upper counterfactual bound: where the original upper bound is at least zero the counterfactual's, else minus ten. -/
def cfHigh (c : EReal) (t t' : ℝ) : EReal :=
  if 0 ≤ (t : EReal) + (c + ((2 * eps : ℝ) : EReal)) then (t' : EReal) + (c + ((2 * eps : ℝ) : EReal)) else ((-10 : ℝ) : EReal)

/-- The bound of one row: the lower one where the label is zero, else the upper one. -/
def outRow (y : BitVec 32) (c : EReal) (x x' : Fin 256 → ℝ) : EReal :=
  if y = 0#32 then cfLow c (low n x) (low n x') else cfHigh c (high n x) (high n x')
/-- Whether that bound still lets the label change: one bit. -/
def validRow (y : BitVec 32) (c : EReal) (x x' : Fin 256 → ℝ) : BitVec 1 :=
  if y = 0#32 then BitVec.ofBool (decide (cfLow c (low n x) (low n x') ≤ 0))
  else BitVec.ofBool (decide (0 ≤ cfHigh c (high n x) (high n x')))

variable {n x}

theorem rad1_nonneg : 0 ≤ rad1 x :=
  add_nonneg (mul_nonneg eps_pos.le (Finset.sum_nonneg fun _ _ => abs_nonneg _)) eps_pos.le

theorem lo1_nonneg (j : Fin 512) : 0 ≤ lo1 n x j := le_max_right _ _
theorem lo1_le_hi1 (j : Fin 512) : lo1 n x j ≤ hi1 n x j :=
  max_le_max_right _ (by have := rad1_nonneg (x := x); linarith)
theorem hi1_nonneg (j : Fin 512) : 0 ≤ hi1 n x j := le_max_right _ _

theorem rad2_nonneg (j : Fin 512) : 0 ≤ rad2 n x j :=
  add_nonneg
    (Finset.sum_nonneg fun k _ => mul_nonneg (mul_nonneg (by norm_num) (sub_nonneg.mpr (lo1_le_hi1 k))) (abs_nonneg _))
    (add_nonneg (mul_nonneg eps_pos.le (Finset.sum_nonneg fun k _ => hi1_nonneg k)) eps_pos.le)

theorem lo2_nonneg (j : Fin 512) : 0 ≤ lo2 n x j := le_max_right _ _
theorem hi2_nonneg (j : Fin 512) : 0 ≤ hi2 n x j := le_max_right _ _
theorem lo2_le_hi2 (j : Fin 512) : lo2 n x j ≤ hi2 n x j :=
  max_le_max_right _ (by have := rad2_nonneg (n := n) (x := x) j; linarith)

theorem wlo_lt_whi (j : Fin 512) : wlo n j < whi n j := by
  unfold wlo whi; have := eps_pos; linarith

theorem whi_sub_wlo (j : Fin 512) : whi n j - wlo n j = 4 * eps := by unfold wlo whi; ring

/-- The least product of a weight with an interval of non-negative ends: its lower end where the weight is not
    negative, else its upper end. -/
theorem min_mul_eq {l u v : ℝ} (h : l ≤ u) :
    min (l * v) (u * v) = l * (if 0 ≤ v then v else 0) + u * (if 0 ≤ v then 0 else v) := by
  by_cases hv : 0 ≤ v
  · rw [if_pos hv, if_pos hv, min_eq_left (mul_le_mul_of_nonneg_right h hv)]; ring
  · rw [if_neg hv, if_neg hv, min_eq_right (mul_le_mul_of_nonpos_right h (le_of_not_ge hv))]; ring

/-- The greatest such product. -/
theorem max_mul_eq {l u v : ℝ} (h : l ≤ u) :
    max (l * v) (u * v) = l * (if 0 ≤ v then 0 else v) + u * (if 0 ≤ v then v else 0) := by
  by_cases hv : 0 ≤ v
  · rw [if_pos hv, if_pos hv, max_eq_right (mul_le_mul_of_nonneg_right h hv)]; ring
  · rw [if_neg hv, if_neg hv, max_eq_left (mul_le_mul_of_nonpos_right h (le_of_not_ge hv))]; ring

/-- The least sum as a sum over lower ends and a sum over upper ends. -/
theorem low_eq : low n x = (∑ j, lo2 n x j * (if 0 ≤ wlo n j then wlo n j else 0))
    + ∑ j, hi2 n x j * (if 0 ≤ wlo n j then 0 else wlo n j) := by
  rw [← Finset.sum_add_distrib]
  exact Finset.sum_congr rfl fun j _ => min_mul_eq (lo2_le_hi2 j)

/-- The greatest sum likewise. -/
theorem high_eq : high n x = (∑ j, lo2 n x j * (if 0 ≤ whi n j then 0 else whi n j))
    + ∑ j, hi2 n x j * (if 0 ≤ whi n j then whi n j else 0) := by
  rw [← Finset.sum_add_distrib]
  exact Finset.sum_congr rfl fun j _ => max_mul_eq (lo2_le_hi2 j)

end Cert.Bound

end
-- ==== Proof.Args.lean ====
/-
  The argument arrays of both programs, for finite inputs: what each holds, over real numbers.
-/
module

public import proofs.«01_k».proof.Proof.Spec
public import Idealize.ShloMosaic.PureOps
public import Idealize.ShloMosaic.Lib.Pointwise

@[expose] public section

noncomputable section

namespace Cert.Bound

open Idealize.ShloMosaic

/-- An array of single-precision numbers with one axis, over extended reals, -/
abbrev Arr1 (a : Nat) := FVec Ideal ⟨1, ![a]⟩ .f32
/-- and with two axes. -/
abbrev Arr2 (a b : Nat) := FVec Ideal ⟨2, ![a, b]⟩ .f32

/-- What the arrays hold, for finite inputs: the two inputs' rows, the two layers' parameters, and the last layer's two
    rows of weights, of which the programs use the difference. -/
structure Args (n : Net) (X X' : Fin 4096 → Fin 256 → ℝ) (p q : Fin 512 → ℝ)
    (a0 a1 : Arr2 4096 256) (a3 : Arr2 512 256) (a4 : Arr1 512) (a5 : Arr2 512 512) (a6 : Arr1 512) (a7 : Arr2 2 512) :
    Prop where
  e0 : ∀ i k, (a0 (ix2 i k) : EReal) = X i k
  e1 : ∀ i k, (a1 (ix2 i k) : EReal) = X' i k
  e3 : ∀ j k, (a3 (ix2 j k) : EReal) = n.W1 j k
  e4 : ∀ j, (a4 (ix1 j) : EReal) = n.b1 j
  e5 : ∀ j k, (a5 (ix2 j k) : EReal) = n.W2 j k
  e6 : ∀ j, (a6 (ix1 j) : EReal) = n.b2 j
  e70 : ∀ j, (a7 (ix2 0 j) : EReal) = p j
  e71 : ∀ j, (a7 (ix2 1 j) : EReal) = q j
  w : ∀ j, n.w j = q j - p j

/-- The difference of the last layer's two biases. -/
def gap (a8 : Arr1 2) : EReal := (a8 (ix1 1) : EReal) - (a8 (ix1 0) : EReal)

/-- The first result: the row's bit at every row, -/
def bits (n : Net) (X X' : Fin 4096 → Fin 256 → ℝ) (a2 : (⟨1, ![4096]⟩ : Shape).Idx → BitVec 32) (a8 : Arr1 2) :
    (⟨1, ![4096]⟩ : Shape).Idx → BitVec 1 := fun i => validRow n (a2 i) (gap a8) (X (i 0)) (X' (i 0))
/-- and the second: the row's bound at every row. -/
def outs (n : Net) (X X' : Fin 4096 → Fin 256 → ℝ) (a2 : (⟨1, ![4096]⟩ : Shape).Idx → BitVec 32) (a8 : Arr1 2) :
    (⟨1, ![4096]⟩ : Shape).Idx → EReal := fun i => outRow n (a2 i) (gap a8) (X (i 0)) (X' (i 0))

end Cert.Bound

end
-- ==== Proof.Pre.lean ====
/-
  The precondition read: where `finite` is one, the arguments that it names hold real numbers.
-/
module

public import proofs.«01_k».proof.Proof.Args
public import proofs.«01_k».proof.Proof.Gen.Pre_finite
public import Idealize.ShloMosaic.Lib.ReduceAll

@[expose] public section

noncomputable section

namespace Cert.Bound

open Idealize.ShloMosaic Cert.Pre_finite

local instance : Subsingleton S_.Idx := ⟨fun _ _ => funext fun a => a.elim0⟩

/-- The infinity that the predicate compares with. -/
theorem ofBits_infinity : Ideal.ofBits .f32 0x7F800000#32 = ⊤ := by
  simp [Ideal.ofBits, Ideal.ieee]

/-- A number whose absolute value is below infinity is real. -/
theorem real_of_abs_lt {x : EReal} (h : max x (-x) < ⊤) : ∃ r : ℝ, x = r := by
  induction x with
  | bot => simp at h
  | top => simp at h
  | coe r => exact ⟨r, rfl⟩

/-- Where all absolute values of an array are below infinity, its elements are real numbers. -/
theorem real_of_all {s : Shape} {axes : List (Fin s.rank)} (a : FVec Ideal s .f32) (hb : S_.BroadcastsInDim s ![])
    (hr : s.ReducesTo axes S_) (h : 0 < S_.numel)
    (e : Host.reduce IntOp.andi (cmpf .olt (Host.absf a) (broadcastInDim s ![] hb (constant S_ .f32 0x7F800000#32)))
      (constantI S_ 1 1#1) hr h default = 1#1) (i : s.Idx) : ∃ r : ℝ, (a i : EReal) = r := by
  have e' := Host.reduce_andi_all _ _ hr h _ e i
  refine real_of_abs_lt ?_
  rw [← ofBits_infinity]
  have e2 : BitVec.ofBool (decide ((max (a i : EReal) (-(a i : EReal))) < Ideal.ofBits .f32 0x7F800000#32)) = 1#1 := e'
  by_contra hn
  rw [decide_eq_false hn] at e2
  exact absurd e2 (by decide)

/-- The precondition gives the finite numbers that the arguments hold. -/
theorem args_of_pre (a0 a1 : Arr2 4096 256) (a2 : IVec S4096 32) (a3 : Arr2 512 256) (a4 : Arr1 512) (a5 : Arr2 512 512)
    (a6 : Arr1 512) (a7 : Arr2 2 512) (a8 : Arr1 2)
    (h : fn (F := Ideal) a0 a1 a2 a3 a4 a5 a6 a7 a8 = fun _ => 1#1) :
    ∃ n X X' p q, Args n X X' p q a0 a1 a3 a4 a5 a6 a7 := by
  have h := congrFun h default
  unfold fn fn_part1 at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h1⟩ := IntOp.andi_eq_one.1 h
  have f0 := real_of_all a0 _ _ _ h0
  have f1 := real_of_all a1 _ _ _ h1
  have f3 := real_of_all a3 _ _ _ h3
  have f4 := real_of_all a4 _ _ _ h4
  have f5 := real_of_all a5 _ _ _ h5
  have f6 := real_of_all a6 _ _ _ h6
  have f7 := real_of_all a7 _ _ _ h7
  choose g0 g0' using f0
  choose g1 g1' using f1
  choose g3 g3' using f3
  choose g4 g4' using f4
  choose g5 g5' using f5
  choose g6 g6' using f6
  choose g7 g7' using f7
  exact ⟨⟨fun j k => g3 (ix2 j k), fun j => g4 (ix1 j), fun j k => g5 (ix2 j k), fun j => g6 (ix1 j),
      fun j => g7 (ix2 1 j) - g7 (ix2 0 j)⟩, fun i k => g0 (ix2 i k), fun i k => g1 (ix2 i k), fun j => g7 (ix2 0 j),
      fun j => g7 (ix2 1 j),
    ⟨fun _ _ => g0' _, fun _ _ => g1' _, fun _ _ => g3' _, fun _ => g4' _, fun _ _ => g5' _, fun _ => g6' _, fun _ => g7' _,
      fun _ => g7' _, fun _ => rfl⟩⟩

end Cert.Bound

end
-- ==== Proof.Block.lean ====
/-
  One block of the kernel, read at a row: with finite inputs the values that the body computes for a row are the real
  bounds of `Spec.lean`.
-/
module

public import proofs.«01_k».proof.Proof.Spec
public import proofs.«01_k».proof.Proof.Gen.KernelIdeal.Frame

@[expose] public section

set_option maxRecDepth 16384

noncomputable section

namespace Cert.Bound

open Idealize.ShloMosaic Cert.KernelIdeal Cert.KernelIdeal.Gen

variable {n : Net} {X : Fin 1024 → Fin 256 → ℝ}
variable {v1 : FVec Ideal S512x256 .bf16} {v3 : FVec Ideal S1x512 .f32} {v42 : Vec Ideal S1024x256 .f32}

/-- The first layer's product and bias at a row and a unit. -/
theorem pay19_apply (hx : ∀ r k, (v42 (ix2 r k) : EReal) = X r k) (h1 : ∀ j k, (v1 (ix2 j k) : EReal) = n.W1 j k)
    (h3 : ∀ j, (v3 (ix2 0 j) : EReal) = n.b1 j) (r : Fin 1024) (j : Fin 512) :
    (k0_pay19 v1 v3 v42 (ix2 r j) : EReal) = ((mid1 n (X r) j : ℝ) : EReal) := by
  pointwise [k0_pay19, k0_pay18]
  simp only [hx, h1, h3, ← EReal.coe_mul, coe_sum, ← EReal.coe_add]
  rfl

/-- The first layer's radius at a row. -/
theorem pay20_apply (hx : ∀ r k, (v42 (ix2 r k) : EReal) = X r k) (r : Fin 1024) :
    (k0_pay20 v42 (ix2 r 0) : EReal) = ((rad1 (X r) : ℝ) : EReal) := by
  pointwise [k0_pay20, k0_pay18, k0_pay16]
  simp only [hx, coe_abs, ofBits_eps, ← EReal.coe_mul, coe_sum, ← EReal.coe_add]
  rfl

/-- The first layer's lower bound at a row and a unit, -/
theorem pay21_apply (hx : ∀ r k, (v42 (ix2 r k) : EReal) = X r k) (h1 : ∀ j k, (v1 (ix2 j k) : EReal) = n.W1 j k)
    (h3 : ∀ j, (v3 (ix2 0 j) : EReal) = n.b1 j) (r : Fin 1024) (j : Fin 512) :
    (k0_pay21 v1 v3 v42 (ix2 r j) : EReal) = ((lo1 n (X r) j : ℝ) : EReal) := by
  pointwise [k0_pay21]
  rw [pay19_apply hx h1 h3, pay20_apply hx, ← EReal.coe_sub, coe_max_zero]
  rfl

/-- and its upper bound. -/
theorem pay22_apply (hx : ∀ r k, (v42 (ix2 r k) : EReal) = X r k) (h1 : ∀ j k, (v1 (ix2 j k) : EReal) = n.W1 j k)
    (h3 : ∀ j, (v3 (ix2 0 j) : EReal) = n.b1 j) (r : Fin 1024) (j : Fin 512) :
    (k0_pay22 v1 v3 v42 (ix2 r j) : EReal) = ((hi1 n (X r) j : ℝ) : EReal) := by
  pointwise [k0_pay22]
  rw [pay19_apply hx h1 h3, pay20_apply hx, ← EReal.coe_add, coe_max_zero]
  rfl

variable {v5 v6 : FVec Ideal S512x512 .bf16} {v8 : FVec Ideal S1x512 .f32}

/-- The second layer's product and bias at a row and a unit. -/
theorem pay23_apply (hx : ∀ r k, (v42 (ix2 r k) : EReal) = X r k) (h1 : ∀ j k, (v1 (ix2 j k) : EReal) = n.W1 j k)
    (h3 : ∀ j, (v3 (ix2 0 j) : EReal) = n.b1 j) (h5 : ∀ j k, (v5 (ix2 j k) : EReal) = n.W2 j k)
    (h8 : ∀ j, (v8 (ix2 0 j) : EReal) = n.b2 j) (r : Fin 1024) (j : Fin 512) :
    (k0_pay23 v1 v3 v5 v8 v42 (ix2 r j) : EReal) = ((mid2 n (X r) j : ℝ) : EReal) := by
  pointwise [k0_pay23]
  simp only [pay21_apply hx h1 h3, pay22_apply hx h1 h3, h5, h8, ofBits_half_bf16, ← EReal.coe_mul, ← EReal.coe_add, coe_sum]
  rfl

/-- The second layer's radius at a row and a unit, in the two parts that the body adds. -/
theorem pay24_pay25_apply (hx : ∀ r k, (v42 (ix2 r k) : EReal) = X r k) (h1 : ∀ j k, (v1 (ix2 j k) : EReal) = n.W1 j k)
    (h3 : ∀ j, (v3 (ix2 0 j) : EReal) = n.b1 j) (h6 : ∀ j k, (v6 (ix2 j k) : EReal) = ((|n.W2 j k| : ℝ) : EReal))
    (r : Fin 1024) (j : Fin 512) :
    (k0_pay24 v1 v3 v6 v42 (ix2 r j) : EReal) + (k0_pay25 v1 v3 v42 (ix2 r j) : EReal) = ((rad2 n (X r) j : ℝ) : EReal) := by
  pointwise [k0_pay24, k0_pay25, k0_pay17]
  simp only [pay21_apply hx h1 h3, pay22_apply hx h1 h3, h6, ofBits_half_bf16, ofBits_eps, ← EReal.coe_mul, ← EReal.coe_sub,
    ← EReal.coe_add, coe_sum]
  rfl

variable {v26 v34 : FVec Ideal S512x2 .bf16} {v71 v72 v78 : FVec Ideal S1024x512 .f32}

/-- The two sums over the second layer at a row, from the middle and the radius: the sum with the weight moved down, -/
theorem pay27_apply (h26 : ∀ j, (v26 (ix2 j 0) : EReal) = ((if 0 ≤ wlo n j then wlo n j else 0 : ℝ) : EReal))
    (h34 : ∀ j, (v34 (ix2 j 0) : EReal) = ((if 0 ≤ wlo n j then 0 else wlo n j : ℝ) : EReal))
    (h71 : ∀ r j, (v71 (ix2 r j) : EReal) = ((mid2 n (X r) j : ℝ) : EReal))
    (h72 : ∀ r j, (v72 (ix2 r j) : EReal) + (v78 (ix2 r j) : EReal) = ((rad2 n (X r) j : ℝ) : EReal)) (r : Fin 1024) :
    (k0_pay27 v26 v34 v71 v72 v78 (ix2 r 0) : EReal) = ((low n (X r) : ℝ) : EReal) := by
  pointwise [k0_pay27, k0_pay26]
  simp only [h26, h34, h71, h72, ← EReal.coe_sub, ← EReal.coe_add, coe_max_zero, ← EReal.coe_mul, coe_sum]
  rw [low_eq]
  rfl

/-- and the sum with the weight moved up. -/
theorem pay28_apply (h26 : ∀ j, (v26 (ix2 j 1) : EReal) = ((if 0 ≤ whi n j then 0 else whi n j : ℝ) : EReal))
    (h34 : ∀ j, (v34 (ix2 j 1) : EReal) = ((if 0 ≤ whi n j then whi n j else 0 : ℝ) : EReal))
    (h71 : ∀ r j, (v71 (ix2 r j) : EReal) = ((mid2 n (X r) j : ℝ) : EReal))
    (h72 : ∀ r j, (v72 (ix2 r j) : EReal) + (v78 (ix2 r j) : EReal) = ((rad2 n (X r) j : ℝ) : EReal)) (r : Fin 1024) :
    (k0_pay28 v26 v34 v71 v72 v78 (ix2 r 0) : EReal) = ((high n (X r) : ℝ) : EReal) := by
  pointwise [k0_pay28, k0_pay26]
  simp only [h26, h34, h71, h72, ← EReal.coe_sub, ← EReal.coe_add, coe_max_zero, ← EReal.coe_mul, coe_sum]
  rw [high_eq]
  rfl

variable {v9 v11 : Vec Ideal S512x1 .f32}

/-- The difference of the last layer's rows, moved down and up. -/
theorem pay9_apply (hw : ∀ j, (v9 (ix2 j 0) : EReal) - (v11 (ix2 j 0) : EReal) = n.w j) (j : Fin 512) :
    (k0_pay9 v9 v11 (ix2 j 0) : EReal) = ((wlo n j : ℝ) : EReal) := by
  pointwise [k0_pay9, k0_pay8]
  rw [hw, ofBits_two_eps, ← EReal.coe_sub]
  rfl
theorem pay10_apply (hw : ∀ j, (v9 (ix2 j 0) : EReal) - (v11 (ix2 j 0) : EReal) = n.w j) (j : Fin 512) :
    (k0_pay10 v9 v11 (ix2 j 0) : EReal) = ((whi n j : ℝ) : EReal) := by
  pointwise [k0_pay10, k0_pay8]
  rw [hw, ofBits_two_eps, ← EReal.coe_add]
  rfl

/-- The two columns by which the lower ends are multiplied, -/
theorem pay12_apply (hw : ∀ j, (v9 (ix2 j 0) : EReal) - (v11 (ix2 j 0) : EReal) = n.w j) (j : Fin 512) :
    (k0_pay12 v9 v11 (ix2 j 0) : EReal) = ((if 0 ≤ wlo n j then wlo n j else 0 : ℝ) : EReal)
    ∧ (k0_pay12 v9 v11 (ix2 j 1) : EReal) = ((if 0 ≤ whi n j then 0 else whi n j : ℝ) : EReal) := by
  constructor
  · pointwise [k0_pay12, k0_pay11]
    simp only [pay9_apply hw, EReal.coe_nonneg]
    split <;> simp_all
  · pointwise [k0_pay12, k0_pay11]
    simp only [pay10_apply hw, EReal.coe_nonneg]
    split <;> simp_all

/-- and those for the upper ends. -/
theorem pay13_apply (hw : ∀ j, (v9 (ix2 j 0) : EReal) - (v11 (ix2 j 0) : EReal) = n.w j) (j : Fin 512) :
    (k0_pay13 v9 v11 (ix2 j 0) : EReal) = ((if 0 ≤ wlo n j then 0 else wlo n j : ℝ) : EReal)
    ∧ (k0_pay13 v9 v11 (ix2 j 1) : EReal) = ((if 0 ≤ whi n j then whi n j else 0 : ℝ) : EReal) := by
  constructor
  · pointwise [k0_pay13, k0_pay11]
    simp only [pay9_apply hw, EReal.coe_nonneg]
    split <;> simp_all
  · pointwise [k0_pay13, k0_pay11]
    simp only [pay10_apply hw, EReal.coe_nonneg]
    split <;> simp_all

/-- The counterfactual input's sums are the original input's sums of other rows: the body computes both alike. -/
theorem pay36_eq (v1 : FVec Ideal S512x256 .bf16) (v3 : FVec Ideal S1x512 .f32) (v5 v6 : FVec Ideal S512x512 .bf16)
    (v8 : FVec Ideal S1x512 .f32) (v26 v34 : FVec Ideal S512x2 .bf16) (v93 : Vec Ideal S1024x256 .f32) :
    k0_pay36 v6 v26 v34 k0_pay17 (k0_pay33 v1 v3 k0_pay16 v93) (k0_pay34 v1 v3 k0_pay16 v93)
      (k0_pay35 v1 v3 v5 v8 k0_pay16 v93) (constant S1024x512 .f32 0x00000000#32)
    = k0_pay26 v26 v34 (k0_pay23 v1 v3 v5 v8 v93) (k0_pay24 v1 v3 v6 v93) (k0_pay25 v1 v3 v93) := rfl

/-- What the windows' blocks hold, for finite inputs: the two inputs' rows, the parameters, the difference of the two
    last biases (any extended real) and the labels. -/
structure Holds (n : Net) (X X' : Fin 1024 → Fin 256 → ℝ) (c : EReal) (Y : Fin 1024 → BitVec 32)
    (x0 x1 : Vec Ideal S1024x256 .f32) (x2 : Vec Ideal S1024x1 .i32) (x3 : Vec Ideal S512x256 .f32)
    (x4 : Vec Ideal S1x512 .f32) (x5 : Vec Ideal S512x512 .f32) (x6 : Vec Ideal S1x512 .f32)
    (x7 : Vec Ideal S512x2 .f32) (x8 : Vec Ideal S1x2 .f32) : Prop where
  h0 : ∀ r k, (x0 (ix2 r k) : EReal) = X r k
  h1 : ∀ r k, (x1 (ix2 r k) : EReal) = X' r k
  h2 : ∀ r, x2 (ix2 r 0) = Y r
  h3 : ∀ j k, (x3 (ix2 j k) : EReal) = n.W1 j k
  h4 : ∀ j, (x4 (ix2 0 j) : EReal) = n.b1 j
  h5 : ∀ j k, (x5 (ix2 j k) : EReal) = n.W2 j k
  h6 : ∀ j, (x6 (ix2 0 j) : EReal) = n.b2 j
  h7 : ∀ j, (x7 (ix2 j 1) : EReal) - (x7 (ix2 j 0) : EReal) = n.w j
  h8 : (x8 (ix2 0 1) : EReal) - (x8 (ix2 0 0) : EReal) = c

variable {X' : Fin 1024 → Fin 256 → ℝ} {c : EReal} {Y : Fin 1024 → BitVec 32}
  {x0 x1 : Vec Ideal S1024x256 .f32} {x2 : Vec Ideal S1024x1 .i32} {x3 : Vec Ideal S512x256 .f32}
  {x4 : Vec Ideal S1x512 .f32} {x5 : Vec Ideal S512x512 .f32} {x6 : Vec Ideal S1x512 .f32}
  {x7 : Vec Ideal S512x2 .f32} {x8 : Vec Ideal S1x2 .f32}

/-- The loaded parameters, read at an index. -/
theorem Holds.weight1 (h : Holds n X X' c Y x0 x1 x2 x3 x4 x5 x6 x7 x8) (j : Fin 512) (k : Fin 256) :
    (k0_pay3 (View.ld x3 r0_0) (ix2 j k) : EReal) = n.W1 j k := by
  pointwise [k0_pay3, r0_0]; exact h.h3 j k
theorem Holds.bias1 (h : Holds n X X' c Y x0 x1 x2 x3 x4 x5 x6 x7 x8) (j : Fin 512) :
    (k0_pay4 (View.ld x4 r0_1) (ix2 0 j) : EReal) = n.b1 j := by
  pointwise [k0_pay4, r0_1]; exact h.h4 j
theorem Holds.weight2 (h : Holds n X X' c Y x0 x1 x2 x3 x4 x5 x6 x7 x8) (j k : Fin 512) :
    (k0_pay5 (View.ld x5 r0_2) (ix2 j k) : EReal) = n.W2 j k := by
  pointwise [k0_pay5, r0_2]; exact h.h5 j k
theorem Holds.absWeight2 (h : Holds n X X' c Y x0 x1 x2 x3 x4 x5 x6 x7 x8) (j k : Fin 512) :
    (k0_pay6 (View.ld x5 r0_2) (ix2 j k) : EReal) = ((|n.W2 j k| : ℝ) : EReal) := by
  pointwise [k0_pay6]; rw [h.weight2]; exact coe_abs _
theorem Holds.bias2 (h : Holds n X X' c Y x0 x1 x2 x3 x4 x5 x6 x7 x8) (j : Fin 512) :
    (k0_pay7 (View.ld x6 r0_1) (ix2 0 j) : EReal) = n.b2 j := by
  pointwise [k0_pay7, r0_1]; exact h.h6 j
theorem Holds.w (h : Holds n X X' c Y x0 x1 x2 x3 x4 x5 x6 x7 x8) (j : Fin 512) :
    (View.ld x7 r0_3 (ix2 j 0) : EReal) - (View.ld x7 r0_4 (ix2 j 0) : EReal) = n.w j := by
  pointwise [r0_3, r0_4]; exact h.h7 j
theorem Holds.x (h : Holds n X X' c Y x0 x1 x2 x3 x4 x5 x6 x7 x8) (r : Fin 1024) (k : Fin 256) :
    (View.ld x0 r0_7 (ix2 r k) : EReal) = X r k := by
  pointwise [r0_7]; exact h.h0 r k
theorem Holds.x' (h : Holds n X X' c Y x0 x1 x2 x3 x4 x5 x6 x7 x8) (r : Fin 1024) (k : Fin 256) :
    (View.ld x1 r0_7 (ix2 r k) : EReal) = X' r k := by
  pointwise [r0_7]; exact h.h1 r k

/-- The lower bound that the body forms at a row. -/
theorem pay58_apply (h : Holds n X X' c Y x0 x1 x2 x3 x4 x5 x6 x7 x8) (r : Fin 1024) :
    (k0_pay58 x0 x1 x2 x3 x4 x5 x6 x7 x8 (ix2 r 0) : EReal) = cfLow c (low n (X r)) (low n (X' r)) := by
  have e := pay27_apply (X := X) (fun j => (pay12_apply h.w j).1) (fun j => (pay13_apply h.w j).1)
    (pay23_apply h.x h.weight1 h.bias1 h.weight2 h.bias2) (pay24_pay25_apply h.x h.weight1 h.bias1 h.absWeight2) r
  have e' := pay27_apply (X := X') (fun j => (pay12_apply h.w j).1) (fun j => (pay13_apply h.w j).1)
    (pay23_apply h.x' h.weight1 h.bias1 h.weight2 h.bias2) (pay24_pay25_apply h.x' h.weight1 h.bias1 h.absWeight2) r
  unfold k0_pay27 at e'
  have hc := h.h8
  unfold k0_pay58 k0_pay57 k0_pay56 k0_pay55 k0_pay54 k0_pay53 k0_pay52 k0_pay51 k0_pay50 k0_pay49 k0_pay48 k0_pay47
    k0_pay46 k0_pay45 k0_pay44 k0_pay43 k0_pay42 k0_pay41 k0_pay37
  rw [pay36_eq]
  generalize k0_pay27 (F := Ideal) _ _ _ _ _ = A at e ⊢
  generalize k0_pay26 (F := Ideal) _ _ _ _ _ = B at e' ⊢
  generalize extractStridedSlice S1024x1 ![0, 0] B slices_S1024x2_o0_0_S1024x1 = B' at e' ⊢
  pointwise [k0_pay15, k0_pay14, r0_5, r0_6]
  rw [hc, e, e', ofBits_two_eps, ofBits_ten]
  rfl

/-- The upper bound that the body forms at a row. -/
theorem pay59_apply (h : Holds n X X' c Y x0 x1 x2 x3 x4 x5 x6 x7 x8) (r : Fin 1024) :
    (k0_pay59 x0 x1 x2 x3 x4 x5 x6 x7 x8 (ix2 r 0) : EReal) = cfHigh c (high n (X r)) (high n (X' r)) := by
  have e := pay28_apply (X := X) (fun j => (pay12_apply h.w j).2) (fun j => (pay13_apply h.w j).2)
    (pay23_apply h.x h.weight1 h.bias1 h.weight2 h.bias2) (pay24_pay25_apply h.x h.weight1 h.bias1 h.absWeight2) r
  have e' := pay28_apply (X := X') (fun j => (pay12_apply h.w j).2) (fun j => (pay13_apply h.w j).2)
    (pay23_apply h.x' h.weight1 h.bias1 h.weight2 h.bias2) (pay24_pay25_apply h.x' h.weight1 h.bias1 h.absWeight2) r
  unfold k0_pay28 at e'
  have hc := h.h8
  unfold k0_pay59 k0_pay57 k0_pay56 k0_pay55 k0_pay54 k0_pay53 k0_pay52 k0_pay51 k0_pay50 k0_pay49 k0_pay48 k0_pay47
    k0_pay46 k0_pay45 k0_pay44 k0_pay43 k0_pay42 k0_pay41 k0_pay38
  rw [pay36_eq]
  generalize k0_pay28 (F := Ideal) _ _ _ _ _ = A at e ⊢
  generalize k0_pay26 (F := Ideal) _ _ _ _ _ = B at e' ⊢
  generalize extractStridedSlice S1024x1 ![0, 1] B slices_S1024x2_o0_1_S1024x1 = B' at e' ⊢
  pointwise [k0_pay15, k0_pay14, r0_5, r0_6]
  rw [hc, e, e', ofBits_two_eps, ofBits_neg_ten]
  rfl

/-- The label that the body reads at a row. -/
theorem pay60_apply (h : Holds n X X' c Y x0 x1 x2 x3 x4 x5 x6 x7 x8) (r : Fin 1024) :
    k0_pay60 x0 x1 x2 x3 x4 x5 x6 x7 x8 (ix2 r 0) = Y r := by
  pointwise [k0_pay60, k0_pay39, r0_8]; exact h.h2 r

/-- The offset of a whole block is zero on both axes. -/
theorem hz : (![0, 0] : Fin 2 → Nat) = fun _ => 0 := funext fun a => by fin_cases a <;> rfl

/-- What the body leaves in the second output's block at a row: the bound, -/
theorem out10_apply (h : Holds n X X' c Y x0 x1 x2 x3 x4 x5 x6 x7 x8) (r : Fin 1024) :
    (out0_10 x0 x1 x2 x3 x4 x5 x6 x7 x8 (ix2 r 0) : EReal) = outRow n (Y r) c (X r) (X' r) := by
  unfold out0_10
  rw [View.canon_unit_zero hz]
  pointwise [k0_pay2]
  rw [pay58_apply h, pay59_apply h, pay60_apply h, select_label]
  rfl

/-- and in the first output's block the bit widened to a word. -/
theorem out9_apply (h : Holds n X X' c Y x0 x1 x2 x3 x4 x5 x6 x7 x8) (r : Fin 1024) :
    out0_9 x0 x1 x2 x3 x4 x5 x6 x7 x8 (ix2 r 0) = (validRow n (Y r) c (X r) (X' r)).setWidth 32 := by
  unfold out0_9
  rw [View.canon_unit_zero hz]
  pointwise [k0_pay1, k0_pay40]
  rw [pay58_apply h, pay59_apply h, pay60_apply h, select_label]
  unfold validRow
  split <;> rfl

end Cert.Bound

end
-- ==== Proof.KernelValue.lean ====
/-
  The kernel's two result arrays after the run: at each row the bit and the bound of `Spec.lean`.
-/
module

public import proofs.«01_k».proof.Proof.Args
public import proofs.«01_k».proof.Proof.Block
public import Idealize.ShloMosaic.Lib.Pipeline.ValueKit.Geometry
public import Idealize.ShloMosaic.Lib.StableHlo.ReadAt
public import Idealize.ShloMosaic.Lib.Claim

@[expose] public section

set_option maxRecDepth 16384

noncomputable section

namespace Cert.Bound

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- Row `r` of block `t` is row `1024 t + r` of the array. -/
def row (t : Fin cfg0.N) (r : Fin 1024) : Fin 4096 :=
  ⟨t.val * 1024 + r.val, by have h : t.val < 4 := Nat.lt_of_lt_of_eq t.isLt N_0; have := r.isLt; omega⟩

/-- Where the windows' blocks lie: those of the inputs, the labels and the two results at row `1024 t`, the others at the
    array's start. -/
theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![t.val, 0] := (by decide +kernel : ∀ t : Fin grid0.N, _)
theorem at10 : ∀ t : Fin cfg0.N, win0_10.index t = ![t.val, 0] := (by decide +kernel : ∀ t : Fin grid0.N, _)

/-- The inputs' blocks at a row and a feature, and the labels' at a row. -/
theorem iblk0 (t : Fin cfg0.N) (r : Fin 1024) (k : Fin 256) :
    iblk m c 0 t (ix2 r k) = m ((c : Thread nD τ).loc main_arg0) (ix2 (row t r) k) := by
  rw [← V_main_arg0 m c]
  blk_simp [iblk]
  congr 1
  blk_ext [at0]
  rfl
theorem iblk1 (t : Fin cfg0.N) (r : Fin 1024) (k : Fin 256) :
    iblk m c 1 t (ix2 r k) = m ((c : Thread nD τ).loc main_arg1) (ix2 (row t r) k) := by
  rw [← V_main_arg1 m c]
  blk_simp [iblk]
  congr 1
  blk_ext [at1]
  rfl
theorem iblk2 (t : Fin cfg0.N) (r : Fin 1024) :
    iblk m c 2 t (ix2 r 0) = m ((c : Thread nD τ).loc main_arg2) (ix1 (row t r)) := by
  have e : iblk m c 2 t (ix2 r 0) = V m c main_v0 (ix2 (row t r) 0) := by
    blk_simp [iblk]
    congr 1
    blk_ext [at2]
    rfl
  rw [e]
  unfold V V0
  after_reads_at
/-- The parameters' blocks are the whole arrays, some of them as the lines before the region lay them out. -/
theorem iblk3 (t : Fin cfg0.N) (j : Fin 512) (k : Fin 256) :
    iblk m c 3 t (ix2 j k) = m ((c : Thread nD τ).loc main_arg3) (ix2 j k) := by
  rw [← V_main_arg3 m c]
  blk_simp [iblk]
  congr 1
  blk_ext [at3]
theorem iblk4 (t : Fin cfg0.N) (j : Fin 512) :
    iblk m c 4 t (ix2 0 j) = m ((c : Thread nD τ).loc main_arg4) (ix1 j) := by
  have e : iblk m c 4 t (ix2 0 j) = V m c main_v2 (ix2 0 j) := by
    blk_simp [iblk]
    congr 1
    blk_ext [at4]
  rw [e]
  unfold V V0
  after_reads_at
theorem iblk5 (t : Fin cfg0.N) (j : Fin 512) (k : Fin 512) :
    iblk m c 5 t (ix2 j k) = m ((c : Thread nD τ).loc main_arg5) (ix2 j k) := by
  rw [← V_main_arg5 m c]
  blk_simp [iblk]
  congr 1
  blk_ext [at5]
theorem iblk6 (t : Fin cfg0.N) (j : Fin 512) :
    iblk m c 6 t (ix2 0 j) = m ((c : Thread nD τ).loc main_arg6) (ix1 j) := by
  have e : iblk m c 6 t (ix2 0 j) = V m c main_v3 (ix2 0 j) := by
    blk_simp [iblk]
    congr 1
    blk_ext [at6]
  rw [e]
  unfold V V0
  after_reads_at
theorem iblk7 (t : Fin cfg0.N) (j : Fin 512) (k : Fin 2) :
    iblk m c 7 t (ix2 j k) = m ((c : Thread nD τ).loc main_arg7) (ix2 k j) := by
  have e : iblk m c 7 t (ix2 j k) = V m c main_v1 (ix2 j k) := by
    blk_simp [iblk]
    congr 1
    blk_ext [at7]
  rw [e]
  unfold V V0
  after_reads_at
theorem iblk8 (t : Fin cfg0.N) (k : Fin 2) :
    iblk m c 8 t (ix2 0 k) = m ((c : Thread nD τ).loc main_arg8) (ix1 k) := by
  have e : iblk m c 8 t (ix2 0 k) = V m c main_v4 (ix2 0 k) := by
    blk_simp [iblk]
    congr 1
    blk_ext [at8]
  rw [e]
  unfold V V0
  after_reads_at

variable {n : Net} {X X' : Fin 4096 → Fin 256 → ℝ} {p q : Fin 512 → ℝ}

/-- The arguments of the kernel's memory hold the finite numbers. -/
def KArgs (n : Net) (X X' : Fin 4096 → Fin 256 → ℝ) (p q : Fin 512 → ℝ) : Prop :=
  Args n X X' p q (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) (m ((c : Thread nD τ).loc main_arg7))

/-- At every point the windows' blocks hold the block's rows and the parameters. -/
theorem holds (h : KArgs m c n X X' p q) (t : Fin cfg0.N) :
    Holds n (fun r => X (row t r)) (fun r => X' (row t r)) (gap (m ((c : Thread nD τ).loc main_arg8)))
      (fun r => m ((c : Thread nD τ).loc main_arg2) (ix1 (row t r))) (iblk m c 0 t) (iblk m c 1 t) (iblk m c 2 t)
      (iblk m c 3 t) (iblk m c 4 t) (iblk m c 5 t) (iblk m c 6 t) (iblk m c 7 t) (iblk m c 8 t) where
  h0 r k := (iblk0 m c t r k).trans (h.e0 _ _)
  h1 r k := (iblk1 m c t r k).trans (h.e1 _ _)
  h2 r := iblk2 m c t r
  h3 j k := (iblk3 m c t j k).trans (h.e3 _ _)
  h4 j := (iblk4 m c t j).trans (h.e4 _)
  h5 j k := (iblk5 m c t j k).trans (h.e5 _ _)
  h6 j := (iblk6 m c t j).trans (h.e6 _)
  h7 j := by
    rw [iblk7, iblk7]
    erw [h.e71 j, h.e70 j]
    rw [← EReal.coe_sub, h.w]
  h8 := by rw [iblk8, iblk8]; rfl

/-- The array of bounds, row by row. -/
def bounds (n : Net) (X X' : Fin 4096 → Fin 256 → ℝ) : S4096x1.Idx → EReal := fun i =>
  outRow n (m ((c : Thread nD τ).loc main_arg2) (ix1 (i 0))) (gap (m ((c : Thread nD τ).loc main_arg8))) (X (i 0)) (X' (i 0))
/-- The array of bits, row by row, each as a word. -/
def words (n : Net) (X X' : Fin 4096 → Fin 256 → ℝ) : S4096x1.Idx → BitVec 32 := fun i =>
  (validRow n (m ((c : Thread nD τ).loc main_arg2) (ix1 (i 0))) (gap (m ((c : Thread nD τ).loc main_arg8))) (X (i 0))
    (X' (i 0))).setWidth 32

/-- A block's row lies in the result arrays at the row of the same name. -/
theorem place9 (t : Fin cfg0.N) (r : Fin 1024) :
    ((View.whole main_v5_0).slice (win0_9.rect t)).emb (ix2 r 0) = ix2 (row t r) 0 := by
  blk_ext [at9]
  rfl
theorem place10 (t : Fin cfg0.N) (r : Fin 1024) :
    ((View.whole main_v5_1).slice (win0_10.rect t)).emb (ix2 r 0) = ix2 (row t r) 0 := by
  blk_ext [at10]
  rfl

/-- After the run the second output's array holds the bounds, -/
theorem arr10 (h : KArgs m c n X X' p q) : (dats m 0 c).arrAt 10 cfg0.N = bounds m c n X X' := by
  refine (dats m 0 c).arrAt_eq_of_covers 10 _ (by decide +kernel) fun t hf y => ?_
  blk_simp
  rw [after0_10]
  idx_vars y
  obtain rfl : y1 = 0 := Subsingleton.elim _ _
  rw [place10]
  exact out10_apply (holds m c h t) y0
/-- and the first output's array the words. -/
theorem arr9 (h : KArgs m c n X X' p q) : (dats m 0 c).arrAt 9 cfg0.N = words m c n X X' := by
  refine (dats m 0 c).arrAt_eq_of_covers 9 _ (by decide +kernel) fun t hf y => ?_
  blk_simp
  rw [after0_9]
  idx_vars y
  obtain rfl : y1 = 0 := Subsingleton.elim _ _
  rw [place9]
  exact out9_apply (holds m c h t) y0

/-- The lines after the region copy the bounds into the second result, -/
theorem tail9 (h : KArgs m c n X X' p q) (i : Fin 4096) :
    Pipeline.afterTail₀ cfgs (dats m) 0 (V0 m) [hostOps1] c main_v9 (ix1 i)
      = outRow n (m ((c : Thread nD τ).loc main_arg2) (ix1 i)) (gap (m ((c : Thread nD τ).loc main_arg8))) (X i) (X' i) := by
  have e := arr10 m c h
  unfold Pipeline.afterTail₀
  unfold hostOps1
  after_reads_at
  exact (congrFun ((Pipeline.withArrays_arr spec0 (by decide) c (V0 m c)
    (fun w => (dats m 0 c).arrAt w (cfgs 0).N) 10).trans e) (ix2 i 0))

/-- A bit widened to a word differs from zero where the bit is set. -/
theorem ne_zero_setWidth : ∀ b : BitVec 1, IntOp.cmpi .ne (b.setWidth 32) 0#32 = b := by decide

/-- and turn the words into bits for the first. -/
theorem tail8 (h : KArgs m c n X X' p q) (i : Fin 4096) :
    Pipeline.afterTail₀ cfgs (dats m) 0 (V0 m) [hostOps1] c main_v8 (ix1 i)
      = validRow n (m ((c : Thread nD τ).loc main_arg2) (ix1 i)) (gap (m ((c : Thread nD τ).loc main_arg8))) (X i) (X' i) := by
  have e := arr9 m c h
  unfold Pipeline.afterTail₀
  unfold hostOps1
  after_reads_at
  have e' := congrFun ((Pipeline.withArrays_arr spec0 (by decide) c (V0 m c)
    (fun w => (dats m 0 c).arrAt w (cfgs 0).N) 9).trans e) (ix2 i 0)
  refine Eq.trans (congrArg (fun b => IntOp.cmpi .ne b 0#32) e') ?_
  exact ne_zero_setWidth _

/-- The kernel's run from a memory whose arguments are finite: the two results hold the rows' bits and bounds, and the
    arguments are unchanged. -/
theorem kernel_run (ρ : Dev nD → PrngReg) (n : Dev nD → Net) (X X' : Dev nD → Fin 4096 → Fin 256 → ℝ)
    (p q : Dev nD → Fin 512 → ℝ) (h : ∀ c, KArgs m c (n c) (X c) (X' c) (p c) (q c)) :
    θ_run defs (onTc (τ := τ) (main (F := Ideal))) ⟨m, fun _ => 0, ρ⟩ fun r => ∀ c : Dev nD,
      (r.2.mem ((c : Thread nD τ).loc main_v8)
          = bits (n c) (X c) (X' c) (m ((c : Thread nD τ).loc main_arg2)) (m ((c : Thread nD τ).loc main_arg8))
        ∧ r.2.mem ((c : Thread nD τ).loc main_v9)
          = outs (n c) (X c) (X' c) (m ((c : Thread nD τ).loc main_arg2)) (m ((c : Thread nD τ).loc main_arg8))) := by
  refine (θ_run defs _ _).mono (fun r hr c => ⟨?_, ?_⟩) (run_main m ρ)
  · refine ((hr c).2 main_v8 (Pipeline.mem_restRefs_of main_v8 (by decide) (by decide))).trans (funext fun i => ?_)
    idx_vars i
    exact tail8 m c (h c) i0
  · refine ((hr c).2 main_v9 (Pipeline.mem_restRefs_of main_v9 (by decide) (by decide))).trans (funext fun i => ?_)
    idx_vars i
    exact tail9 m c (h c) i0

end Cert.Bound

end
-- ==== Proof.Slopes.lean ====
/-
  The reference's linear bounds over real numbers: slopes and offsets in the weight, and what their sums at the chosen
  weights come to.
-/
module

public import proofs.«01_k».proof.Proof.Spec

@[expose] public section

noncomputable section

namespace Cert.Bound

variable (n : Net) (x : Fin 256 → ℝ)

/-- The least product of the interval with the weight moved down, -/
def leftLb (j : Fin 512) : ℝ := min (lo2 n x j * wlo n j) (hi2 n x j * wlo n j)
/-- the greatest, -/
def leftUb (j : Fin 512) : ℝ := max (lo2 n x j * wlo n j) (hi2 n x j * wlo n j)
/-- the least with the weight moved up, -/
def rightLb (j : Fin 512) : ℝ := min (lo2 n x j * whi n j) (hi2 n x j * whi n j)
/-- and the greatest. -/
def rightUb (j : Fin 512) : ℝ := max (lo2 n x j * whi n j) (hi2 n x j * whi n j)
/-- The slope of the lower line, -/
def alpha (j : Fin 512) : ℝ := (rightLb n x j - leftLb n x j) / (4 * eps)
/-- and of the upper one. -/
def beta (j : Fin 512) : ℝ := (rightUb n x j - leftUb n x j) / (4 * eps)
/-- The lower lines' offsets together, -/
def alphaBase : ℝ := ∑ j, (leftLb n x j - alpha n x j * wlo n j)
/-- and the upper lines'. -/
def betaBase : ℝ := ∑ j, (leftUb n x j - beta n x j * wlo n j)

variable {n x}

/-- The distance between the two weights is positive. -/
theorem four_eps_pos : 0 < 4 * eps := by have := eps_pos; linarith

/-- The lower slope is non-negative: the interval's ends are. -/
theorem alpha_nonneg (j : Fin 512) : 0 ≤ alpha n x j :=
  div_nonneg (sub_nonneg.mpr (min_le_min (mul_le_mul_of_nonneg_left (wlo_lt_whi j).le (lo2_nonneg j))
    (mul_le_mul_of_nonneg_left (wlo_lt_whi j).le (hi2_nonneg j)))) four_eps_pos.le
/-- The upper slope is non-negative too. -/
theorem beta_nonneg (j : Fin 512) : 0 ≤ beta n x j :=
  div_nonneg (sub_nonneg.mpr (max_le_max (mul_le_mul_of_nonneg_left (wlo_lt_whi j).le (lo2_nonneg j))
    (mul_le_mul_of_nonneg_left (wlo_lt_whi j).le (hi2_nonneg j)))) four_eps_pos.le

/-- At the weight moved up the upper lines give the greatest sum. -/
theorem beta_sum : (∑ j, whi n j * beta n x j) + betaBase n x = high n x := by
  unfold betaBase high
  rw [← Finset.sum_add_distrib]
  refine Finset.sum_congr rfl fun j _ => ?_
  have h : beta n x j * (whi n j - wlo n j) = rightUb n x j - leftUb n x j := by
    rw [whi_sub_wlo]; exact div_mul_cancel₀ _ four_eps_pos.ne'
  have e : max (lo2 n x j * whi n j) (hi2 n x j * whi n j) = rightUb n x j := rfl
  rw [e]; linear_combination h

/-- At the weight moved down, or at any weight where the slope is zero, the lower lines give the least sum. -/
theorem alpha_sum {v : Fin 512 → ℝ} (h : ∀ j, v j = wlo n j ∨ alpha n x j = 0) :
    (∑ j, v j * -alpha n x j) = alphaBase n x - low n x := by
  unfold alphaBase low
  rw [← Finset.sum_sub_distrib]
  refine Finset.sum_congr rfl fun j _ => ?_
  have e : min (lo2 n x j * wlo n j) (hi2 n x j * wlo n j) = leftLb n x j := rfl
  rw [e]
  rcases h j with h | h <;> rw [h] <;> ring

/-- A negated offset beside a real number. -/
theorem neg_offset (a b l : ℝ) (h : a = b - l) (e : EReal) : (a : EReal) + -((b : EReal) + e) = -((l : EReal) + e) := by
  subst h
  induction e with
  | bot => rw [EReal.add_bot, EReal.add_bot, EReal.neg_bot, EReal.coe_add_top]
  | top => rw [EReal.coe_add_top, EReal.coe_add_top, EReal.neg_top, EReal.add_bot]
  | coe e => norm_cast; ring

/-- An offset beside a real number. -/
theorem pos_offset (a b l : ℝ) (h : a + b = l) (e : EReal) : (a : EReal) + ((b : EReal) + e) = (l : EReal) + e := by
  rw [← add_assoc, ← EReal.coe_add, h]

/-- A number whose negative is at least zero is at most zero. -/
theorem neg_nonneg_iff (a : EReal) : 0 ≤ -a ↔ a ≤ 0 := by
  constructor
  · intro h; have := EReal.neg_le_neg_iff.mpr h; simpa using this
  · intro h; have := EReal.neg_le_neg_iff.mpr h; simpa using this

end Cert.Bound

end
-- ==== Proof.Forward.lean ====
/-
  The reference's interval bounds after two layers, read at a row and a unit: the real bounds of `Spec.lean`.
-/
module

public import proofs.«01_k».proof.Proof.Args
public import proofs.«01_k».proof.Proof.Gen.ReferenceIdeal.Read

@[expose] public section

set_option maxRecDepth 16384

noncomputable section

namespace Cert.Bound

open Idealize.ShloMosaic Cert.ReferenceIdeal Cert.ReferenceIdeal.Gen Cert.ReferenceIdeal.Read

variable {n : Net} {X : Fin 4096 → Fin 256 → ℝ} {a0 : Arr2 4096 256} {a3 : Arr2 512 256} {a4 : Arr1 512}
  {a5 : Arr2 512 512} {a6 : Arr1 512}

/-- The absolute value of a real number. -/
theorem absf_coe (x : ℝ) : (FloatOps.absf (F := Ideal) (φ := .f32) ((x : ℝ) : EReal) : EReal) = ((|x| : ℝ) : EReal) := coe_abs x

/-- The middle of an interval whose two ends are the input is the input, -/
theorem middle (h0 : ∀ i k, (a0 (ix2 i k) : EReal) = X i k) (i : Fin 4096) (k : Fin 256) :
    (val_main_v2 (F := Ideal) a0 (ix2 i k) : EReal) = X i k := by
  pointwise [val_main_v2, val_main_v1, val_main_v0, val_main_cst]
  rw [h0, ofBits_half, ← EReal.coe_add, ← EReal.coe_mul]
  congr 1; ring
/-- and its radius is zero. -/
theorem radius (h0 : ∀ i k, (a0 (ix2 i k) : EReal) = X i k) (i : Fin 4096) (k : Fin 256) :
    (val_main_v5 (F := Ideal) a0 (ix2 i k) : EReal) = ((0 : ℝ) : EReal) := by
  pointwise [val_main_v5, val_main_v4, val_main_v3, val_main_cst_0]
  rw [h0, ofBits_half, ← EReal.coe_sub, ← EReal.coe_mul]
  congr 1; ring

/-- The first layer's value in the middle. -/
theorem ref_mid1 (h0 : ∀ i k, (a0 (ix2 i k) : EReal) = X i k) (h3 : ∀ j k, (a3 (ix2 j k) : EReal) = n.W1 j k)
    (h4 : ∀ j, (a4 (ix1 j) : EReal) = n.b1 j) (i : Fin 4096) (j : Fin 512) :
    (val_main_v10 (F := Ideal) a0 a3 a4 (ix2 i j) : EReal) = ((mid1 n (X i) j : ℝ) : EReal) := by
  pointwise [val_main_v10, val_main_v9, val_main_v8, val_main_v7, val_main_v6]
  simp only [middle h0, h3, h4, ← EReal.coe_mul, coe_sum, ← EReal.coe_add]
  rfl

/-- The first layer's radius. -/
theorem ref_rad1 (h0 : ∀ i k, (a0 (ix2 i k) : EReal) = X i k) (h3 : ∀ j k, (a3 (ix2 j k) : EReal) = n.W1 j k)
    (i : Fin 4096) (j : Fin 512) :
    (val_main_v23 (F := Ideal) a0 a3 (ix2 i j) : EReal) = ((rad1 (X i) : ℝ) : EReal) := by
  pointwise [val_main_v23, val_main_v22, val_main_v21, val_main_v20, val_main_v19, val_main_v18, val_main_v17,
    val_main_v16, val_main_v15, val_main_v14, val_main_v13, val_main_v12, val_main_v11, val_main_cst_1, val_main_cst_2,
    val_main_cst_3]
  simp only [middle h0, radius h0, h3, absf_coe, ofBits_eps, ← EReal.coe_mul, ← EReal.coe_add, coe_sum]
  unfold rad1
  simp only [zero_mul, Finset.sum_const_zero, zero_add, add_zero]

section

variable (h0 : ∀ i k, (a0 (ix2 i k) : EReal) = X i k) (h3 : ∀ j k, (a3 (ix2 j k) : EReal) = n.W1 j k)
  (h4 : ∀ j, (a4 (ix1 j) : EReal) = n.b1 j) (h5 : ∀ j k, (a5 (ix2 j k) : EReal) = n.W2 j k)
  (h6 : ∀ j, (a6 (ix1 j) : EReal) = n.b2 j)
include h0 h3 h4

/-- The first layer's lower bound, -/
theorem ref_lo1 (i : Fin 4096) (j : Fin 512) :
    (val_main_v27 (F := Ideal) a0 a3 a4 (ix2 i j) : EReal) = ((lo1 n (X i) j : ℝ) : EReal) := by
  pointwise [val_main_v27, val_main_v26, val_main_v24, val_main_cst_4]
  rw [ref_mid1 h0 h3 h4, ref_rad1 h0 h3, ← EReal.coe_sub]
  exact coe_max_zero _
/-- and its upper bound. -/
theorem ref_hi1 (i : Fin 4096) (j : Fin 512) :
    (val_main_v29 (F := Ideal) a0 a3 a4 (ix2 i j) : EReal) = ((hi1 n (X i) j : ℝ) : EReal) := by
  pointwise [val_main_v29, val_main_v28, val_main_v25, val_main_cst_5]
  rw [ref_mid1 h0 h3 h4, ref_rad1 h0 h3, ← EReal.coe_add]
  exact coe_max_zero _

/-- The middle of the first layer's interval, -/
theorem ref_middle1 (i : Fin 4096) (j : Fin 512) :
    (val_main_v32 (F := Ideal) a0 a3 a4 (ix2 i j) : EReal)
      = ((1 / 2 * (lo1 n (X i) j + hi1 n (X i) j) : ℝ) : EReal) := by
  pointwise [val_main_v32, val_main_v31, val_main_v30, val_main_cst_6]
  rw [ref_lo1 h0 h3 h4, ref_hi1 h0 h3 h4, ofBits_half, ← EReal.coe_add, ← EReal.coe_mul, mul_comm]
/-- and its radius. -/
theorem ref_radius1 (i : Fin 4096) (j : Fin 512) :
    (val_main_v35 (F := Ideal) a0 a3 a4 (ix2 i j) : EReal)
      = ((1 / 2 * (hi1 n (X i) j - lo1 n (X i) j) : ℝ) : EReal) := by
  pointwise [val_main_v35, val_main_v34, val_main_v33, val_main_cst_7]
  rw [ref_lo1 h0 h3 h4, ref_hi1 h0 h3 h4, ofBits_half, ← EReal.coe_sub, ← EReal.coe_mul, mul_comm]

include h5

/-- The second layer's radius. -/
theorem ref_rad2 (i : Fin 4096) (j : Fin 512) :
    (val_main_v53 (F := Ideal) a0 a3 a4 a5 (ix2 i j) : EReal) = ((rad2 n (X i) j : ℝ) : EReal) := by
  pointwise [val_main_v53, val_main_v52, val_main_v51, val_main_v50, val_main_v49, val_main_v48, val_main_v47,
    val_main_v46, val_main_v45, val_main_v44, val_main_v43, val_main_v42, val_main_v41, val_main_cst_8, val_main_cst_9,
    val_main_cst_10]
  simp only [ref_middle1 h0 h3 h4, ref_radius1 h0 h3 h4, h5, absf_coe, ofBits_eps, ← EReal.coe_mul, ← EReal.coe_add, coe_sum]
  have e : ∀ k, |1 / 2 * (lo1 n (X i) k + hi1 n (X i) k)| + 1 / 2 * (hi1 n (X i) k - lo1 n (X i) k) = hi1 n (X i) k := by
    intro k
    rw [abs_of_nonneg (mul_nonneg (by norm_num) (add_nonneg (lo1_nonneg k) (hi1_nonneg k)))]
    ring
  unfold rad2
  simp only [e, zero_add, add_assoc]

include h6

/-- The second layer's value in the middle. -/
theorem ref_mid2 (i : Fin 4096) (j : Fin 512) :
    (val_main_v40 (F := Ideal) a0 a3 a4 a5 a6 (ix2 i j) : EReal) = ((mid2 n (X i) j : ℝ) : EReal) := by
  pointwise [val_main_v40, val_main_v39, val_main_v38, val_main_v37, val_main_v36]
  simp only [ref_middle1 h0 h3 h4, h5, h6, ← EReal.coe_mul, coe_sum, ← EReal.coe_add]
  rfl

/-- The second layer's lower bound, -/
theorem ref_lo2 (i : Fin 4096) (j : Fin 512) :
    (val_main_v57 (F := Ideal) a0 a3 a4 a5 a6 (ix2 i j) : EReal) = ((lo2 n (X i) j : ℝ) : EReal) := by
  pointwise [val_main_v57, val_main_v56, val_main_v54, val_main_cst_11]
  rw [ref_mid2 h0 h3 h4 h5 h6, ref_rad2 h0 h3 h4 h5, ← EReal.coe_sub]
  exact coe_max_zero _
/-- and its upper bound. -/
theorem ref_hi2 (i : Fin 4096) (j : Fin 512) :
    (val_main_v59 (F := Ideal) a0 a3 a4 a5 a6 (ix2 i j) : EReal) = ((hi2 n (X i) j : ℝ) : EReal) := by
  pointwise [val_main_v59, val_main_v58, val_main_v55, val_main_cst_12]
  rw [ref_mid2 h0 h3 h4 h5 h6, ref_rad2 h0 h3 h4 h5, ← EReal.coe_add]
  exact coe_max_zero _

end

/-- The counterfactual input's bounds are formed as the original input's are. -/
theorem ref_same_lo (a1 : Arr2 4096 256) (a3 : Arr2 512 256) (a4 : Arr1 512) (a5 : Arr2 512 512) (a6 : Arr1 512) :
    val_main_v117 (F := Ideal) a1 a3 a4 a5 a6 = val_main_v57 (F := Ideal) a1 a3 a4 a5 a6 := rfl
theorem ref_same_hi (a1 : Arr2 4096 256) (a3 : Arr2 512 256) (a4 : Arr1 512) (a5 : Arr2 512 512) (a6 : Arr1 512) :
    val_main_v119 (F := Ideal) a1 a3 a4 a5 a6 = val_main_v59 (F := Ideal) a1 a3 a4 a5 a6 := rfl

end Cert.Bound

end
-- ==== Proof.Lines.lean ====
/-
  The reference's linear bounds read: at a row and a unit the slopes and offsets of `Slopes.lean`.
-/
module

public import proofs.«01_k».proof.Proof.Slopes
public import proofs.«01_k».proof.Proof.Forward

@[expose] public section

set_option maxRecDepth 16384

noncomputable section

namespace Cert.Bound

open Idealize.ShloMosaic Cert.ReferenceIdeal Cert.ReferenceIdeal.Gen Cert.ReferenceIdeal.Read

/-- The difference of the last layer's two biases. -/
theorem ref_gap (a8 : Arr1 2) : (val_main_v129 (F := Ideal) a8 default : EReal) = gap a8 := by
  pointwise [val_main_v129, val_main_v128, val_main_v127, val_main_v126, val_main_v125]
  rfl

section

variable {n : Net} {X X' : Fin 4096 → Fin 256 → ℝ} {p q : Fin 512 → ℝ} {a0 a1 : Arr2 4096 256} {a3 : Arr2 512 256}
  {a4 : Arr1 512} {a5 : Arr2 512 512} {a6 : Arr1 512} {a7 : Arr2 2 512} (h : Args n X X' p q a0 a1 a3 a4 a5 a6 a7)
include h

/-- The weight moved down, -/
theorem ref_wlo (j : Fin 512) : (val_main_v131 (F := Ideal) a7 (ix1 j) : EReal) = ((wlo n j : ℝ) : EReal) := by
  pointwise [val_main_v131, val_main_v130, val_main_v124, val_main_v123, val_main_v122, val_main_v121, val_main_v120,
    val_main_cst_27]
  rw [h.e70, h.e71, ofBits_two_eps, ← EReal.coe_sub, ← EReal.coe_sub, ← h.w]
  rfl
/-- and moved up. -/
theorem ref_whi (j : Fin 512) : (val_main_v133 (F := Ideal) a7 (ix1 j) : EReal) = ((whi n j : ℝ) : EReal) := by
  pointwise [val_main_v133, val_main_v132, val_main_v124, val_main_v123, val_main_v122, val_main_v121, val_main_v120,
    val_main_cst_28]
  rw [h.e70, h.e71, ofBits_two_eps, ← EReal.coe_sub, ← EReal.coe_add, ← h.w]
  rfl

/-- The least product with the weight moved down, -/
theorem ref_leftLb (i : Fin 4096) (j : Fin 512) :
    (val_main_v140 (F := Ideal) a0 a3 a4 a5 a6 a7 (ix2 i j) : EReal) = ((leftLb n (X i) j : ℝ) : EReal) := by
  pointwise [val_main_v140, val_main_v139, val_main_v138, val_main_v137, val_main_v136, val_main_v135, val_main_v134]
  rw [ref_lo2 h.e0 h.e3 h.e4 h.e5 h.e6, ref_hi2 h.e0 h.e3 h.e4 h.e5 h.e6, ref_wlo h, ← EReal.coe_mul, ← EReal.coe_mul]
  exact coe_min _ _
/-- the greatest, -/
theorem ref_leftUb (i : Fin 4096) (j : Fin 512) :
    (val_main_v147 (F := Ideal) a0 a3 a4 a5 a6 a7 (ix2 i j) : EReal) = ((leftUb n (X i) j : ℝ) : EReal) := by
  pointwise [val_main_v147, val_main_v146, val_main_v145, val_main_v144, val_main_v143, val_main_v142, val_main_v141]
  rw [ref_lo2 h.e0 h.e3 h.e4 h.e5 h.e6, ref_hi2 h.e0 h.e3 h.e4 h.e5 h.e6, ref_wlo h, ← EReal.coe_mul, ← EReal.coe_mul]
  exact coe_max _ _
/-- the least with the weight moved up, -/
theorem ref_rightLb (i : Fin 4096) (j : Fin 512) :
    (val_main_v154 (F := Ideal) a0 a3 a4 a5 a6 a7 (ix2 i j) : EReal) = ((rightLb n (X i) j : ℝ) : EReal) := by
  pointwise [val_main_v154, val_main_v153, val_main_v152, val_main_v151, val_main_v150, val_main_v149, val_main_v148]
  rw [ref_lo2 h.e0 h.e3 h.e4 h.e5 h.e6, ref_hi2 h.e0 h.e3 h.e4 h.e5 h.e6, ref_whi h, ← EReal.coe_mul, ← EReal.coe_mul]
  exact coe_min _ _
/-- and the greatest. -/
theorem ref_rightUb (i : Fin 4096) (j : Fin 512) :
    (val_main_v161 (F := Ideal) a0 a3 a4 a5 a6 a7 (ix2 i j) : EReal) = ((rightUb n (X i) j : ℝ) : EReal) := by
  pointwise [val_main_v161, val_main_v160, val_main_v159, val_main_v158, val_main_v157, val_main_v156, val_main_v155]
  rw [ref_lo2 h.e0 h.e3 h.e4 h.e5 h.e6, ref_hi2 h.e0 h.e3 h.e4 h.e5 h.e6, ref_whi h, ← EReal.coe_mul, ← EReal.coe_mul]
  exact coe_max _ _

/-- The slope of the lower line, -/
theorem ref_alpha (i : Fin 4096) (j : Fin 512) :
    (val_main_v165 (F := Ideal) a0 a3 a4 a5 a6 a7 (ix2 i j) : EReal) = ((alpha n (X i) j : ℝ) : EReal) := by
  pointwise [val_main_v165, val_main_v164, val_main_v163, val_main_cst_30]
  rw [ref_leftLb h, ref_rightLb h, ofBits_four_eps, ← EReal.coe_sub]
  exact coe_div _ _ four_eps_pos.ne'
/-- and of the upper one. -/
theorem ref_beta (i : Fin 4096) (j : Fin 512) :
    (val_main_v176 (F := Ideal) a0 a3 a4 a5 a6 a7 (ix2 i j) : EReal) = ((beta n (X i) j : ℝ) : EReal) := by
  pointwise [val_main_v176, val_main_v175, val_main_v174, val_main_cst_33]
  rw [ref_leftUb h, ref_rightUb h, ofBits_four_eps, ← EReal.coe_sub]
  exact coe_div _ _ four_eps_pos.ne'

/-- The offset of the lower lines together, the biases' difference with it, -/
theorem ref_alphaBase (a8 : Arr1 2) (i : Fin 4096) :
    (val_main_v172 (F := Ideal) a0 a3 a4 a5 a6 a7 a8 (ix1 i) : EReal)
      = ((alphaBase n (X i) : ℝ) : EReal) + (gap a8 - ((2 * eps : ℝ) : EReal)) := by
  pointwise [val_main_v172, val_main_v171, val_main_v170, val_main_v169, val_main_v168, val_main_v167, val_main_v166,
    val_main_v162, val_main_cst_31, val_main_cst_29]
  simp only [ref_leftLb h, ref_alpha h, ref_wlo h, ← EReal.coe_mul, ← EReal.coe_sub, coe_sum]
  rw [ofBits_two_eps, ← ref_gap]
  rfl
/-- and of the upper lines. -/
theorem ref_betaBase (a8 : Arr1 2) (i : Fin 4096) :
    (val_main_v183 (F := Ideal) a0 a3 a4 a5 a6 a7 a8 (ix1 i) : EReal)
      = ((betaBase n (X i) : ℝ) : EReal) + (gap a8 + ((2 * eps : ℝ) : EReal)) := by
  pointwise [val_main_v183, val_main_v182, val_main_v181, val_main_v180, val_main_v179, val_main_v178, val_main_v177,
    val_main_v173, val_main_cst_34, val_main_cst_32]
  simp only [ref_leftUb h, ref_beta h, ref_wlo h, ← EReal.coe_mul, ← EReal.coe_sub, coe_sum]
  rw [ofBits_two_eps, ← ref_gap]
  rfl

end

section

variable {n : Net} {X X' : Fin 4096 → Fin 256 → ℝ} {p q : Fin 512 → ℝ} {a0 a1 : Arr2 4096 256} {a3 : Arr2 512 256}
  {a4 : Arr1 512} {a5 : Arr2 512 512} {a6 : Arr1 512} {a7 : Arr2 2 512} (h : Args n X X' p q a0 a1 a3 a4 a5 a6 a7)
include h

/-- With the two inputs exchanged the arguments hold what they should. -/
theorem Args.swap : Args n X' X p q a1 a0 a3 a4 a5 a6 a7 :=
  ⟨h.e1, h.e0, h.e3, h.e4, h.e5, h.e6, h.e70, h.e71, h.w⟩

/-- The counterfactual input's slopes and offsets are formed as the original's: the lower slope, -/
theorem ref_alpha' (i : Fin 4096) (j : Fin 512) :
    (val_main_v219 (F := Ideal) a1 a3 a4 a5 a6 a7 (ix2 i j) : EReal) = ((alpha n (X' i) j : ℝ) : EReal) :=
  ref_alpha h.swap i j
/-- the upper slope, -/
theorem ref_beta' (i : Fin 4096) (j : Fin 512) :
    (val_main_v230 (F := Ideal) a1 a3 a4 a5 a6 a7 (ix2 i j) : EReal) = ((beta n (X' i) j : ℝ) : EReal) :=
  ref_beta h.swap i j
/-- the lower offset, -/
theorem ref_alphaBase' (a8 : Arr1 2) (i : Fin 4096) :
    (val_main_v226 (F := Ideal) a1 a3 a4 a5 a6 a7 a8 (ix1 i) : EReal)
      = ((alphaBase n (X' i) : ℝ) : EReal) + (gap a8 - ((2 * eps : ℝ) : EReal)) := ref_alphaBase h.swap a8 i
/-- and the upper offset. -/
theorem ref_betaBase' (a8 : Arr1 2) (i : Fin 4096) :
    (val_main_v237 (F := Ideal) a1 a3 a4 a5 a6 a7 a8 (ix1 i) : EReal)
      = ((betaBase n (X' i) : ℝ) : EReal) + (gap a8 + ((2 * eps : ℝ) : EReal)) := ref_betaBase h.swap a8 i
/-- The two weights once more, as the search for the bound is given them: the upper one -/
theorem ref_wub (j : Fin 512) : (val_main_v239 (F := Ideal) a7 (ix1 j) : EReal) = ((whi n j : ℝ) : EReal) := ref_whi h j
/-- and the lower one. -/
theorem ref_wlb (j : Fin 512) : (val_main_v241 (F := Ideal) a7 (ix1 j) : EReal) = ((wlo n j : ℝ) : EReal) := ref_wlo h j

end

end Cert.Bound

end
-- ==== Proof.Lower.lean ====
/-
  The reference's lower bound. Both slopes have one sign, so the sorted values are all zero, no share of any term is
  taken, and the sum at the chosen weights is the whole answer.
-/
module

public import proofs.«01_k».proof.Proof.Lines

@[expose] public section

set_option maxRecDepth 16384

noncomputable section

namespace Cert.Bound

open Idealize.ShloMosaic Cert.ReferenceIdeal Cert.ReferenceIdeal.Gen Cert.ReferenceIdeal.Read

/-- The fill the reference uses outside an array is the least extended real. -/
theorem ofBits_fill : Ideal.ofBits .f32 0x7FC00000#32 = (⊥ : EReal) := by
  simp [Ideal.ofBits, Ideal.ieee]

/-- A gather from an array that is zero everywhere is zero everywhere. -/
theorem gather_zero {s si t : Shape} {w : Nat} (d : GatherDims s si t) (x : s.Idx → EReal) (idx : IVec si w)
    (hx : ∀ k, x k = 0) (k : t.Idx) : Host.gather d x idx k = 0 := hx _

/-- The weight chosen for a slope of at most zero: the lower one, or one where both slopes are zero. -/
theorem weight_cases (a b v w : ℝ) (ha : 0 ≤ a) (hb : 0 ≤ b) : ∃ u : ℝ,
    Scalar.select (IntOp.ori (BitVec.ofBool (decide (-(a : EReal) < 0)))
      (IntOp.andi (BitVec.ofBool (decide (-(a : EReal) = 0))) (BitVec.ofBool (decide (-(b : EReal) < 0)))))
      (v : EReal) (w : EReal) = (u : EReal) ∧ (u = v ∨ a = 0) ∧ (u = v ∨ b = 0) := by
  have e1 : -(a : EReal) < 0 ↔ 0 < a := by
    rw [← EReal.coe_neg, ← EReal.coe_zero, EReal.coe_lt_coe_iff]; exact neg_lt_zero
  have e2 : -(a : EReal) = 0 ↔ a = 0 := by
    rw [← EReal.coe_neg, ← EReal.coe_zero, EReal.coe_eq_coe_iff]; exact neg_eq_zero
  have e3 : -(b : EReal) < 0 ↔ 0 < b := by
    rw [← EReal.coe_neg, ← EReal.coe_zero, EReal.coe_lt_coe_iff]; exact neg_lt_zero
  simp only [e1, e2, e3]
  rcases ha.lt_or_eq with ha | ha
  · have hn : a ≠ 0 := ha.ne'
    exact ⟨v, by by_cases hb' : 0 < b <;> simp [ha, hn, hb', Scalar.select, IntOp.ori, IntOp.andi], .inl rfl, .inl rfl⟩
  · subst ha
    rcases hb.lt_or_eq with hb | hb
    · exact ⟨v, by simp [hb, Scalar.select, IntOp.ori, IntOp.andi], .inl rfl, .inl rfl⟩
    · exact ⟨w, by simp [← hb, Scalar.select, IntOp.ori, IntOp.andi], .inr rfl, .inr hb.symm⟩

/-- Neither zero nor the fill is above zero. -/
theorem not_pos (b : BitVec 1) : ¬ (0 : EReal) < Scalar.select b 0 (⊥ : EReal) := by
  unfold Scalar.select; split <;> simp

/-- The zero word. -/
theorem zero_word (i : S_.Idx) : (id (constant (F := Ideal) S_ .f32 0#32) i : EReal) = 0 := by
  show Ideal.ofBits .f32 0#32 = 0
  simp [Ideal.ofBits, Ideal.ieee]

/-- A share taken only where a value with the fill outside is above zero, that value being zero: nothing is taken. -/
theorem share_zero (b : IVec S4096x512 1) (g v : FVec Ideal S4096x512 .f32) (hg : ∀ k, (g k : EReal) = 0)
    (k : S4096x512.Idx) :
    (select (cmpf .ogt (select b g (broadcastInDim S4096x512 ![] bcast_S_S4096x512 (constant S_ .f32 0x7FC00000#32)))
        (broadcastInDim S4096x512 ![] bcast_S_S4096x512 (constant S_ .f32 0#32)))
      v (broadcastInDim S4096x512 ![] bcast_S_S4096x512 (id (constant (F := Ideal) S_ .f32 0#32))) k : EReal) = 0 := by
  idx_vars k
  pointwise []
  rw [hg, ofBits_fill, if_neg (not_pos _), zero_word]

/-- Terms of which nothing is taken come to zero. -/
theorem shares_zero (t s : FVec Ideal S4096x512 .f32) (hs : ∀ k, (s k : EReal) = 0) (i : Fin 4096) :
    (Host.reduceAdd (mulf t s) (constant S_ .f32 0#32) reducesTo_S4096x512_S4096_d1 h_S_ (ix1 i) : EReal) = 0 := by
  pointwise []
  simp only [hs, mul_zero, Finset.sum_const_zero, add_zero]

/-- The negative of the sum at the chosen weights, where the sum itself is tested. -/
theorem neg_select (c : EReal) (a a' : ℝ) :
    -(if 0 ≤ -((a : EReal) + (c - ((2 * eps : ℝ) : EReal))) then -((a' : EReal) + (c - ((2 * eps : ℝ) : EReal)))
      else ((-10 : ℝ) : EReal)) = cfLow c a a' := by
  unfold cfLow
  rw [if_congr (neg_nonneg_iff _) rfl rfl]
  split
  · rw [neg_neg]
  · rw [← EReal.coe_neg, neg_neg]

section

variable {n : Net} {X X' : Fin 4096 → Fin 256 → ℝ} {p q : Fin 512 → ℝ} {a0 a1 : Arr2 4096 256} {a3 : Arr2 512 256}
  {a4 : Arr1 512} {a5 : Arr2 512 512} {a6 : Arr1 512} {a7 : Arr2 2 512} (h : Args n X X' p q a0 a1 a3 a4 a5 a6 a7)
include h

/-- The weight chosen is a real number, and it is the lower one wherever a slope is not zero. -/
theorem ref_lower_weight (i : Fin 4096) : ∃ v : Fin 512 → ℝ,
    (∀ j, (val_main_v254 (F := Ideal) a0 a1 a3 a4 a5 a6 a7 (ix2 i j) : EReal) = ((v j : ℝ) : EReal))
      ∧ (∀ j, v j = wlo n j ∨ alpha n (X i) j = 0) ∧ (∀ j, v j = wlo n j ∨ alpha n (X' i) j = 0) := by
  have e : ∀ j, ∃ v : ℝ, (val_main_v254 (F := Ideal) a0 a1 a3 a4 a5 a6 a7 (ix2 i j) : EReal) = (v : EReal)
      ∧ (v = wlo n j ∨ alpha n (X i) j = 0) ∧ (v = wlo n j ∨ alpha n (X' i) j = 0) := by
    intro j
    pointwise [val_main_v254, val_main_v253, val_main_v252, val_main_v251, val_main_v250, val_main_v249, val_main_v248,
      val_main_v247, val_main_v246, val_main_v243, val_main_v242, val_main_cst_45, val_main_cst_46, val_main_cst_47,
      val_main_call0_v0, val_main_call0_v1]
    rw [ref_wub h, ref_wlb h, ref_alpha h, ref_alpha' h]
    exact weight_cases _ _ _ _ (alpha_nonneg j) (alpha_nonneg j)
  choose v hv using e
  exact ⟨v, fun j => (hv j).1, fun j => (hv j).2.1, fun j => (hv j).2.2⟩

/-- Every value to be sorted is zero: the two slopes have one sign. -/
theorem ref_lower_sorted (k : S4096x512.Idx) : (val_main_v269 (F := Ideal) a0 a1 a3 a4 a5 a6 a7 k : EReal) = 0 := by
  idx_vars k
  pointwise [val_main_v269, val_main_v263, val_main_v262, val_main_v261, val_main_v243, val_main_v242, val_main_cst_50,
    val_main_call1_v1, val_main_call1_v0, val_main_cst_52]
  rw [ref_alpha h, ref_alpha' h, if_pos, zero_word]
  rw [← EReal.coe_neg, ← EReal.coe_neg, ← EReal.coe_mul, neg_mul_neg, ← EReal.coe_zero, EReal.coe_le_coe_iff]
  exact mul_nonneg (alpha_nonneg _) (alpha_nonneg _)

/-- So no share of any term is taken, -/
theorem ref_lower_share (a8 : Arr1 2) (k : S4096x512.Idx) :
    (val_main_v300 (F := Ideal) a0 a1 a3 a4 a5 a6 a7 a8 k : EReal) = 0 := by
  rw [val_main_v300, val_main_v299, val_main_v298, val_main_cst_59, val_main_call9_v1, val_main_call9_v0,
    val_main_cst_60, val_main_v282, val_main_call3_v14, val_main_call3_cst, val_main_call3_v13]
  exact share_zero _ _ _ (gather_zero _ _ _ (ref_lower_sorted h)) k

/-- and the terms together are zero. -/
theorem ref_lower_shares (a8 : Arr1 2) (i : Fin 4096) :
    (val_main_v302 (F := Ideal) a0 a1 a3 a4 a5 a6 a7 a8 (ix1 i) : EReal) = 0 := by
  rw [val_main_v302, val_main_v301, val_main_cst_61]
  exact shares_zero _ _ (ref_lower_share h a8) i

/-- The original sum at the chosen weights is the negated lower bound, -/
theorem ref_lower_orig (a8 : Arr1 2) (i : Fin 4096) :
    (val_main_v260 (F := Ideal) a0 a1 a3 a4 a5 a6 a7 a8 (ix1 i) : EReal)
      = -(((low n (X i) : ℝ) : EReal) + (gap a8 - ((2 * eps : ℝ) : EReal))) := by
  obtain ⟨v, hv, h1, h2⟩ := ref_lower_weight h i
  pointwise [val_main_v260, val_main_v259, val_main_v258, val_main_v244, val_main_v242, val_main_cst_49]
  simp only [hv, ref_alpha h, ref_alphaBase h, ← EReal.coe_neg, ← EReal.coe_mul, coe_sum]
  exact neg_offset _ _ _ (alpha_sum h1) _

/-- and so is the counterfactual's. -/
theorem ref_lower_cf (a8 : Arr1 2) (i : Fin 4096) :
    (val_main_v257 (F := Ideal) a0 a1 a3 a4 a5 a6 a7 a8 (ix1 i) : EReal)
      = -(((low n (X' i) : ℝ) : EReal) + (gap a8 - ((2 * eps : ℝ) : EReal))) := by
  obtain ⟨v, hv, h1, h2⟩ := ref_lower_weight h i
  pointwise [val_main_v257, val_main_v256, val_main_v255, val_main_v245, val_main_v243, val_main_cst_48]
  simp only [hv, ref_alpha' h, ref_alphaBase' h, ← EReal.coe_neg, ← EReal.coe_mul, coe_sum]
  exact neg_offset _ _ _ (alpha_sum h2) _

/-- The reference's lower counterfactual bound. -/
theorem ref_cfLow (a8 : Arr1 2) (i : Fin 4096) :
    (val_main_v307 (F := Ideal) a0 a1 a3 a4 a5 a6 a7 a8 (ix1 i) : EReal)
      = cfLow (gap a8) (low n (X i)) (low n (X' i)) := by
  pointwise [val_main_v307, val_main_v306, val_main_v305, val_main_v304, val_main_v303, val_main_cst_62,
    val_main_call10_v1, val_main_call10_v0, val_main_cst_63]
  rw [ref_lower_orig h, ref_lower_cf h, ref_lower_shares h, ← neg_select, add_zero, ← ofBits_neg_ten]
  rfl

end

end Cert.Bound

end
-- ==== Proof.Upper.lean ====
/-
  The reference's upper bound. Both slopes are at least zero, so the weight chosen is always the upper one, the sorted
  values are all zero, and the sum at the chosen weights is the whole answer.
-/
module

public import proofs.«01_k».proof.Proof.Lower

@[expose] public section

set_option maxRecDepth 16384

noncomputable section

namespace Cert.Bound

open Idealize.ShloMosaic Cert.ReferenceIdeal Cert.ReferenceIdeal.Gen Cert.ReferenceIdeal.Read

/-- The weight chosen for slopes of at least zero is the upper one. -/
theorem weight_upper (a b : ℝ) (v w : EReal) (ha : 0 ≤ a) (hb : 0 ≤ b) :
    Scalar.select (IntOp.ori (BitVec.ofBool (decide ((a : EReal) < 0)))
      (IntOp.andi (BitVec.ofBool (decide ((a : EReal) = 0))) (BitVec.ofBool (decide ((b : EReal) < 0))))) v w = w := by
  have e1 : ¬ (a : EReal) < 0 := not_lt.mpr (EReal.coe_nonneg.mpr ha)
  have e2 : ¬ (b : EReal) < 0 := not_lt.mpr (EReal.coe_nonneg.mpr hb)
  simp [e1, e2, Scalar.select, IntOp.ori, IntOp.andi]

section

variable {n : Net} {X X' : Fin 4096 → Fin 256 → ℝ} {p q : Fin 512 → ℝ} {a0 a1 : Arr2 4096 256} {a3 : Arr2 512 256}
  {a4 : Arr1 512} {a5 : Arr2 512 512} {a6 : Arr1 512} {a7 : Arr2 2 512} (h : Args n X X' p q a0 a1 a3 a4 a5 a6 a7)
include h

/-- The weight chosen is the upper one. -/
theorem ref_upper_weight (i : Fin 4096) (j : Fin 512) :
    (val_main_v316 (F := Ideal) a0 a1 a3 a4 a5 a6 a7 (ix2 i j) : EReal) = ((whi n j : ℝ) : EReal) := by
  pointwise [val_main_v316, val_main_v315, val_main_v314, val_main_v313, val_main_v312, val_main_v311, val_main_v310,
    val_main_v309, val_main_v308, val_main_cst_64, val_main_cst_65, val_main_cst_66,
    val_main_call11_v0, val_main_call11_v1]
  rw [ref_wub h, ref_wlb h, ref_beta h, ref_beta' h]
  exact weight_upper _ _ _ _ (beta_nonneg j) (beta_nonneg j)

/-- Every value to be sorted is zero: the two slopes have one sign. -/
theorem ref_upper_sorted (k : S4096x512.Idx) : (val_main_v331 (F := Ideal) a0 a1 a3 a4 a5 a6 a7 k : EReal) = 0 := by
  idx_vars k
  pointwise [val_main_v331, val_main_v325, val_main_v324, val_main_v323, val_main_cst_69,
    val_main_call12_v1, val_main_call12_v0, val_main_cst_71]
  rw [ref_beta h, ref_beta' h, if_pos, zero_word]
  rw [← EReal.coe_mul]
  exact EReal.coe_nonneg.mpr (mul_nonneg (beta_nonneg _) (beta_nonneg _))

/-- So no share of any term is taken, -/
theorem ref_upper_share (a8 : Arr1 2) (k : S4096x512.Idx) :
    (val_main_v362 (F := Ideal) a0 a1 a3 a4 a5 a6 a7 a8 k : EReal) = 0 := by
  rw [val_main_v362, val_main_v361, val_main_v360, val_main_cst_78, val_main_call20_v1, val_main_call20_v0,
    val_main_cst_79, val_main_v344, val_main_call14_v14, val_main_call14_cst, val_main_call14_v13]
  exact share_zero _ _ _ (gather_zero _ _ _ (ref_upper_sorted h)) k

/-- and the terms together are zero. -/
theorem ref_upper_shares (a8 : Arr1 2) (i : Fin 4096) :
    (val_main_v364 (F := Ideal) a0 a1 a3 a4 a5 a6 a7 a8 (ix1 i) : EReal) = 0 := by
  rw [val_main_v364, val_main_v363, val_main_cst_80]
  exact shares_zero _ _ (ref_upper_share h a8) i

/-- The original sum at the chosen weights is the upper bound, -/
theorem ref_upper_orig (a8 : Arr1 2) (i : Fin 4096) :
    (val_main_v322 (F := Ideal) a0 a1 a3 a4 a5 a6 a7 a8 (ix1 i) : EReal)
      = ((high n (X i) : ℝ) : EReal) + (gap a8 + ((2 * eps : ℝ) : EReal)) := by
  pointwise [val_main_v322, val_main_v321, val_main_v320, val_main_cst_68]
  simp only [ref_upper_weight h, ref_beta h, ref_betaBase h, ← EReal.coe_mul, coe_sum]
  exact pos_offset _ _ _ beta_sum _

/-- and so is the counterfactual's. -/
theorem ref_upper_cf (a8 : Arr1 2) (i : Fin 4096) :
    (val_main_v319 (F := Ideal) a0 a1 a3 a4 a5 a6 a7 a8 (ix1 i) : EReal)
      = ((high n (X' i) : ℝ) : EReal) + (gap a8 + ((2 * eps : ℝ) : EReal)) := by
  pointwise [val_main_v319, val_main_v318, val_main_v317, val_main_cst_67]
  simp only [ref_upper_weight h, ref_beta' h, ref_betaBase' h, ← EReal.coe_mul, coe_sum]
  exact pos_offset _ _ _ beta_sum _

/-- The reference's upper counterfactual bound. -/
theorem ref_cfHigh (a8 : Arr1 2) (i : Fin 4096) :
    (val_main_v368 (F := Ideal) a0 a1 a3 a4 a5 a6 a7 a8 (ix1 i) : EReal)
      = cfHigh (gap a8) (high n (X i)) (high n (X' i)) := by
  pointwise [val_main_v368, val_main_v367, val_main_v366, val_main_v365, val_main_cst_81,
    val_main_call21_v1, val_main_call21_v0, val_main_cst_82]
  rw [ref_upper_orig h, ref_upper_cf h, ref_upper_shares h, add_zero, cfHigh, ← ofBits_neg_ten]
  rfl

/-- The reference's first result: for each row the bit of its label's bound. -/
theorem ref_bits (a2 : (⟨S4096, .i32⟩ : BufTy).Contents (Elt Ideal)) (a8 : Arr1 2) :
    val_main_v375 (F := Ideal) a0 a1 a2 a3 a4 a5 a6 a7 a8 = bits n X X' a2 a8 := by
  funext k
  idx_vars k
  pointwise [val_main_v375, val_main_v374, val_main_v373, val_main_v372, val_main_v371, val_main_v370, val_main_v369,
    val_main_c, val_main_cst_83, val_main_cst_84]
  rw [ref_cfLow h, ref_cfHigh h, select_label]
  rfl

/-- The reference's second result: for each row its label's bound. -/
theorem ref_outs (a2 : (⟨S4096, .i32⟩ : BufTy).Contents (Elt Ideal)) (a8 : Arr1 2) :
    val_main_v378 (F := Ideal) a0 a1 a2 a3 a4 a5 a6 a7 a8 = outs n X X' a2 a8 := by
  funext k
  idx_vars k
  pointwise [val_main_v378, val_main_v377, val_main_v376, val_main_c_85]
  rw [ref_cfLow h, ref_cfHigh h, select_label]
  rfl

end

end Cert.Bound

end
-- ==== Proof.Claims.lean ====
/-
  The claims of this certificate, each from the modules before it.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Pre
public import proofs.«01_k».proof.Proof.KernelValue
public import proofs.«01_k».proof.Proof.Upper

@[expose] public section

noncomputable section

namespace Cert.Bound

open Idealize.ShloMosaic Idealize.SL.Sem

/-- The kernel runs and leaves its arguments as they were, -/
theorem frame_kernel : Cert.quiescent_Kernel := fun m g _ => Cert.Kernel.Gen.frame m g
/-- so does its idealization, -/
theorem frame_ideal : Cert.quiescent_KernelIdeal := fun m g _ => Cert.KernelIdeal.Gen.frame m g
/-- on finite arguments too, -/
theorem frame_ideal_finite : Cert.quiescent_KernelIdeal_pre_finite := fun m g _ => Cert.KernelIdeal.Gen.frame m g

/-- and the reference's, -/
theorem frame_reference : Cert.quiescent_ReferenceIdeal := fun m g _ =>
  (θ_run Cert.ReferenceIdeal.defs _ _).mono
    (fun r hr => ⟨fun c => (hr c).2.2, sem_eq_zero_of_no_sems (by decide) r.2⟩)
    (Cert.ReferenceIdeal.Value.run (F := Ideal) m g)
/-- on finite arguments too. -/
theorem frame_reference_finite : Cert.quiescent_ReferenceIdeal_pre_finite := fun m g _ =>
  frame_reference m g trivial

/-- The reference's run from a memory whose arguments are finite: its two results hold the rows' bits and bounds, and the
    arguments are unchanged. -/
theorem reference_run (m : (ℓ : Loc Cert.ReferenceIdeal.nD Cert.ReferenceIdeal.τ Cert.ReferenceIdeal.sig) → Buf (Elt Ideal) ℓ)
    (g : Dev Cert.ReferenceIdeal.nD → PrngReg)
    (n : Dev Cert.ReferenceIdeal.nD → Net) (X X' : Dev Cert.ReferenceIdeal.nD → Fin 4096 → Fin 256 → ℝ)
    (p q : Dev Cert.ReferenceIdeal.nD → Fin 512 → ℝ)
    (h : ∀ c : Dev Cert.ReferenceIdeal.nD, Args (n c) (X c) (X' c) (p c) (q c)
      (m ((c.tc : Thread Cert.ReferenceIdeal.nD Cert.ReferenceIdeal.τ).loc Cert.ReferenceIdeal.main_arg0))
      (m ((c.tc : Thread Cert.ReferenceIdeal.nD Cert.ReferenceIdeal.τ).loc Cert.ReferenceIdeal.main_arg1))
      (m ((c.tc : Thread Cert.ReferenceIdeal.nD Cert.ReferenceIdeal.τ).loc Cert.ReferenceIdeal.main_arg3))
      (m ((c.tc : Thread Cert.ReferenceIdeal.nD Cert.ReferenceIdeal.τ).loc Cert.ReferenceIdeal.main_arg4))
      (m ((c.tc : Thread Cert.ReferenceIdeal.nD Cert.ReferenceIdeal.τ).loc Cert.ReferenceIdeal.main_arg5))
      (m ((c.tc : Thread Cert.ReferenceIdeal.nD Cert.ReferenceIdeal.τ).loc Cert.ReferenceIdeal.main_arg6))
      (m ((c.tc : Thread Cert.ReferenceIdeal.nD Cert.ReferenceIdeal.τ).loc Cert.ReferenceIdeal.main_arg7))) :
    θ_run Cert.ReferenceIdeal.defs (onTc (τ := Cert.ReferenceIdeal.τ) (Cert.ReferenceIdeal.main (F := Ideal)))
      ⟨m, fun _ => 0, g⟩ fun r => ∀ c : Dev Cert.ReferenceIdeal.nD,
        r.2.mem ((c.tc : Thread Cert.ReferenceIdeal.nD Cert.ReferenceIdeal.τ).loc Cert.ReferenceIdeal.main_v375)
          = bits (n c) (X c) (X' c)
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg8))
        ∧ r.2.mem ((c.tc : Thread Cert.ReferenceIdeal.nD Cert.ReferenceIdeal.τ).loc Cert.ReferenceIdeal.main_v378)
          = outs (n c) (X c) (X' c)
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg8)) :=
  (θ_run Cert.ReferenceIdeal.defs _ _).mono
    (fun _ hr c =>
      ⟨(hr c).1.trans ((Cert.ReferenceIdeal.Read.val_main_v375_eq (StableHlo.launchContents m c)).trans (ref_bits (h c) _ _)),
        (hr c).2.1.trans ((Cert.ReferenceIdeal.Read.val_main_v378_eq (StableHlo.launchContents m c)).trans (ref_outs (h c) _ _))⟩)
    (Cert.ReferenceIdeal.Value.run (F := Ideal) m g)

/-- The idealized kernel and the idealized reference, from equal arguments that are finite but for the last bias, end
    with equal results, both of them. -/
theorem algebraic : Cert.algebraic_KernelIdeal_ReferenceIdeal_pre_finite := by
  intro m g m' g' hpre hagree
  choose n X X' p q h using fun c => args_of_pre _ _ _ _ _ _ _ _ _ (hpre c)
  have hk := θ_run_and (kernel_run m g n X X' p q h) (Cert.KernelIdeal.Gen.frame m g)
  refine ⟨_, _, (θ_run Cert.KernelIdeal.defs _ _).mono
    (fun _ hr c => ⟨(hr.1 c).1, (hr.1 c).2, hr.2.1 c⟩) hk, ?_⟩
  have h' := reference_run m' g' n X X' p q (fun c => by
    obtain ⟨e0, e1, e2, e3, e4, e5, e6, e7, e8⟩ := hagree c
    rw [e0, e1, e3, e4, e5, e6, e7]
    exact h c)
  refine (θ_run Cert.ReferenceIdeal.defs _ _).mono (fun _ hr c => ?_)
    (θ_run_and h' (frame_reference m' g' trivial))
  obtain ⟨e0, e1, e2, e3, e4, e5, e6, e7, e8⟩ := hagree c
  refine ⟨(hr.1 c).1.trans ?_, (hr.1 c).2.trans ?_, hr.2.1 c⟩
  · rw [e2, e8]
  · rw [e2, e8]

end Cert.Bound

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Pre_finite.Gen.facts, Cert.Bound.frame_kernel, Cert.Bound.frame_ideal, Cert.Bound.frame_ideal_finite,
  Cert.Bound.frame_reference, Cert.Bound.frame_reference_finite, trivial, Cert.Bound.algebraic⟩

end Cert.Proof

end
